-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S1792x32 : Shape := ⟨2, ![1792, 32]⟩
abbrev S4x8192 : Shape := ⟨2, ![4, 8192]⟩
abbrev S56x32 : Shape := ⟨2, ![56, 32]⟩
abbrev S_ : Shape := ⟨0, ![]⟩
abbrev S16 : Shape := ⟨1, ![16]⟩
abbrev S1x16 : Shape := ⟨2, ![1, 16]⟩
abbrev S1 : Shape := ⟨1, ![1]⟩
abbrev S2304x32 : Shape := ⟨2, ![2304, 32]⟩
abbrev S256x8192 : Shape := ⟨2, ![256, 8192]⟩
abbrev S256x32 : Shape := ⟨2, ![256, 32]⟩
abbrev S1x256 : Shape := ⟨2, ![1, 256]⟩
abbrev S256x256 : Shape := ⟨2, ![256, 256]⟩
abbrev S256 : Shape := ⟨1, ![256]⟩
abbrev S256x1 : Shape := ⟨2, ![256, 1]⟩
abbrev S4096x32 : Shape := ⟨2, ![4096, 32]⟩

abbrev nBuf : Table → Nat
  | .hbm => 4
  | .local .tc .vmem => 4
  | .local .scVector .vmem => 3
  | _ => 0

abbrev bufTy : (tb : Table) → Fin (nBuf tb) → BufTy
  | .hbm, ⟨0, _⟩ => ⟨S4096x8192, .f32⟩
  | .hbm, ⟨1, _⟩ => ⟨S1792x32, .i32⟩
  | .hbm, ⟨2, _⟩ => ⟨S2304x32, .i32⟩
  | .hbm, ⟨3, _⟩ => ⟨S4096x32, .i32⟩
  | .local .tc .vmem, ⟨0, _⟩ => ⟨S256x8192, .f32⟩
  | .local .tc .vmem, ⟨1, _⟩ => ⟨S256x8192, .f32⟩
  | .local .tc .vmem, ⟨2, _⟩ => ⟨S256x32, .i32⟩
  | .local .tc .vmem, ⟨3, _⟩ => ⟨S256x32, .i32⟩
  | .local .scVector .vmem, ⟨0, _⟩ => ⟨S4x8192, .f32⟩
  | .local .scVector .vmem, ⟨1, _⟩ => ⟨S4x8192, .f32⟩
  | .local .scVector .vmem, ⟨2, _⟩ => ⟨S56x32, .i32⟩
  | _, _ => ⟨S4096x8192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_95 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c56_i32 : BitVec 32 := 56#32
  let v2 : BitVec 32 := Scalar.muli v1 c56_i32
  let v260 : BitVec 32 := Scalar.addi v2 c0_i32_95
  let c0_i32_96 : BitVec 32 := 0#32
  ![v260.toNat, 0]
@[reducible] def k0_t1_loop : Scf.Loop 32 :=
  let c0_i32_101 : BitVec 32 := 0#32
  let c7_i32 : BitVec 32 := 7#32
  let v266 : BitVec 32 := Scalar.addi c0_i32_101 c7_i32
  let c1_i32 : BitVec 32 := 1#32
  ⟨c0_i32_101, v266, c1_i32⟩
@[reducible] def k0_t2_loop : Scf.Loop 32 :=
  let c0_i32_110 : BitVec 32 := 0#32
  let c4_i32_111 : BitVec 32 := 4#32
  let v272 : BitVec 32 := Scalar.addi c0_i32_110 c4_i32_111
  let c1_i32_112 : BitVec 32 := 1#32
  ⟨c0_i32_110, v272, c1_i32_112⟩
@[reducible] def k0_t3_loop : Scf.Loop 32 :=
  let c0_i32_132 : BitVec 32 := 0#32
  let c16_i32_133 : BitVec 32 := 16#32
  let v289 : BitVec 32 := Scalar.addi c0_i32_132 c16_i32_133
  let c1_i32_134 : BitVec 32 := 1#32
  ⟨c0_i32_132, v289, c1_i32_134⟩
def k0_off2 (k0_t2 : Fin k0_t2_loop.trips) (k0_t3 : Fin k0_t3_loop.trips) (c0_i32_148 : BitVec 32) : Fin 2 → Nat :=
  let c0_i32_110 : BitVec 32 := 0#32
  let c1_i32_112 : BitVec 32 := 1#32
  let arg11 : BitVec 32 := Scf.iv c0_i32_110 c1_i32_112 k0_t2
  let v323 : Index := Scalar.indexCast arg11
  let c0_i32_132 : BitVec 32 := 0#32
  let c1_i32_134 : BitVec 32 := 1#32
  let arg13 : BitVec 32 := Scf.iv c0_i32_132 c1_i32_134 k0_t3
  let c256_i32 : BitVec 32 := 256#32
  let v321 : BitVec 32 := Scalar.muli arg13 c256_i32
  let v322 : BitVec 32 := Scalar.addi v321 c0_i32_148
  let v324 : Index := Scalar.indexCast v322
  ![v323.toNat, v324.toNat]
def k0_off3 (k0_t2 : Fin k0_t2_loop.trips) (k0_t3 : Fin k0_t3_loop.trips) (c0_i32_165 : BitVec 32) : Fin 2 → Nat :=
  let c0_i32_110 : BitVec 32 := 0#32
  let c1_i32_112 : BitVec 32 := 1#32
  let arg11 : BitVec 32 := Scf.iv c0_i32_110 c1_i32_112 k0_t2
  let v467 : Index := Scalar.indexCast arg11
  let c0_i32_132 : BitVec 32 := 0#32
  let c1_i32_134 : BitVec 32 := 1#32
  let arg13 : BitVec 32 := Scf.iv c0_i32_132 c1_i32_134 k0_t3
  let c256_i32_164 : BitVec 32 := 256#32
  let v464 : BitVec 32 := Scalar.muli arg13 c256_i32_164
  let c4096_i32 : BitVec 32 := 4096#32
  let v465 : BitVec 32 := Scalar.addi v464 c4096_i32
  let v466 : BitVec 32 := Scalar.addi v465 c0_i32_165
  let v468 : Index := Scalar.indexCast v466
  ![v467.toNat, v468.toNat]
def k0_off4 (k0_t1 : Fin k0_t1_loop.trips) (k0_t2 : Fin k0_t2_loop.trips) : Fin 2 → Nat :=
  let c2_i32_103 : BitVec 32 := 2#32
  let c0_i32_101 : BitVec 32 := 0#32
  let c1_i32 : BitVec 32 := 1#32
  let arg9 : BitVec 32 := Scf.iv c0_i32_101 c1_i32 k0_t1
  let v268 : BitVec 32 := Scalar.muli c2_i32_103 arg9
  let c0_i32_104 : BitVec 32 := 0#32
  let v269 : BitVec 32 := Scalar.addi v268 c0_i32_104
  let c4_i32_136 : BitVec 32 := 4#32
  let v291 : BitVec 32 := Scalar.muli v269 c4_i32_136
  let c0_i32_110 : BitVec 32 := 0#32
  let c1_i32_112 : BitVec 32 := 1#32
  let arg11 : BitVec 32 := Scf.iv c0_i32_110 c1_i32_112 k0_t2
  let v292 : BitVec 32 := Scalar.addi v291 arg11
  let v305 : Index := Scalar.indexCast v292
  let c0 : Index := 0#32
  ![v305.toNat, 0]
def k0_off5 (k0_t1 : Fin k0_t1_loop.trips) (k0_t2 : Fin k0_t2_loop.trips) : Fin 2 → Nat :=
  let c2_i32_103 : BitVec 32 := 2#32
  let c0_i32_101 : BitVec 32 := 0#32
  let c1_i32 : BitVec 32 := 1#32
  let arg9 : BitVec 32 := Scf.iv c0_i32_101 c1_i32 k0_t1
  let v268 : BitVec 32 := Scalar.muli c2_i32_103 arg9
  let c0_i32_104 : BitVec 32 := 0#32
  let v269 : BitVec 32 := Scalar.addi v268 c0_i32_104
  let c4_i32_136 : BitVec 32 := 4#32
  let v291 : BitVec 32 := Scalar.muli v269 c4_i32_136
  let c0_i32_110 : BitVec 32 := 0#32
  let c1_i32_112 : BitVec 32 := 1#32
  let arg11 : BitVec 32 := Scf.iv c0_i32_110 c1_i32_112 k0_t2
  let v292 : BitVec 32 := Scalar.addi v291 arg11
  let v319 : Index := Scalar.indexCast v292
  let c16 : Index := 16#32
  ![v319.toNat, 16]
def k0_cond1 (k0_t1 : Fin k0_t1_loop.trips) : BitVec 1 :=
  let c2_i32_103 : BitVec 32 := 2#32
  let c0_i32_101 : BitVec 32 := 0#32
  let c1_i32 : BitVec 32 := 1#32
  let arg9 : BitVec 32 := Scf.iv c0_i32_101 c1_i32 k0_t1
  let v268 : BitVec 32 := Scalar.muli c2_i32_103 arg9
  let c0_i32_104 : BitVec 32 := 0#32
  let v269 : BitVec 32 := Scalar.addi v268 c0_i32_104
  let c2_i32_114 : BitVec 32 := 2#32
  let v274 : BitVec 32 := Scalar.addi v269 c2_i32_114
  let c14_i32 : BitVec 32 := 14#32
  let v275 : BitVec 1 := Scalar.cmpi .slt v274 c14_i32
  let v276 : BitVec 32 := Scalar.extui v275
  let c0_i32_115 : BitVec 32 := 0#32
  let v277 : BitVec 1 := Scalar.cmpi .ne v276 c0_i32_115
  v277

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c56_i32 : BitVec 32 := 56#32
  let v2 : BitVec 32 := Scalar.muli v1 c56_i32
  let c2_i32_103 : BitVec 32 := 2#32
  let c0_i32_101 : BitVec 32 := 0#32
  let c1_i32 : BitVec 32 := 1#32
  let arg9 : BitVec 32 := Scf.iv c0_i32_101 c1_i32 k0_t1
  let v268 : BitVec 32 := Scalar.muli c2_i32_103 arg9
  let c0_i32_104 : BitVec 32 := 0#32
  let v269 : BitVec 32 := Scalar.addi v268 c0_i32_104
  let c2_i32_131 : BitVec 32 := 2#32
  let v288 : BitVec 32 := Scalar.addi v269 c2_i32_131
  let c4_i32_132 : BitVec 32 := 4#32
  let v289 : BitVec 32 := Scalar.muli v288 c4_i32_132
  let v290 : BitVec 32 := Scalar.addi v2 v289
  let c0_i32_133 : BitVec 32 := 0#32
  ![v290.toNat, 0]
@[reducible] def k0_t4_loop : Scf.Loop 32 :=
  let c0_i32_123 : BitVec 32 := 0#32
  let c4_i32_124 : BitVec 32 := 4#32
  let v282 : BitVec 32 := Scalar.addi c0_i32_123 c4_i32_124
  let c1_i32_125 : BitVec 32 := 1#32
  ⟨c0_i32_123, v282, c1_i32_125⟩
@[reducible] def k0_t5_loop : Scf.Loop 32 :=
  let c0_i32_132 : BitVec 32 := 0#32
  let c16_i32_133 : BitVec 32 := 16#32
  let v289 : BitVec 32 := Scalar.addi c0_i32_132 c16_i32_133
  let c1_i32_134 : BitVec 32 := 1#32
  ⟨c0_i32_132, v289, c1_i32_134⟩
def k0_off7 (k0_t4 : Fin k0_t4_loop.trips) (k0_t5 : Fin k0_t5_loop.trips) (c0_i32_148 : BitVec 32) : Fin 2 → Nat :=
  let c0_i32_123 : BitVec 32 := 0#32
  let c1_i32_125 : BitVec 32 := 1#32
  let arg11 : BitVec 32 := Scf.iv c0_i32_123 c1_i32_125 k0_t4
  let v323 : Index := Scalar.indexCast arg11
  let c0_i32_132 : BitVec 32 := 0#32
  let c1_i32_134 : BitVec 32 := 1#32
  let arg13 : BitVec 32 := Scf.iv c0_i32_132 c1_i32_134 k0_t5
  let c256_i32 : BitVec 32 := 256#32
  let v321 : BitVec 32 := Scalar.muli arg13 c256_i32
  let v322 : BitVec 32 := Scalar.addi v321 c0_i32_148
  let v324 : Index := Scalar.indexCast v322
  ![v323.toNat, v324.toNat]
def k0_off8 (k0_t4 : Fin k0_t4_loop.trips) (k0_t5 : Fin k0_t5_loop.trips) (c0_i32_165 : BitVec 32) : Fin 2 → Nat :=
  let c0_i32_123 : BitVec 32 := 0#32
  let c1_i32_125 : BitVec 32 := 1#32
  let arg11 : BitVec 32 := Scf.iv c0_i32_123 c1_i32_125 k0_t4
  let v467 : Index := Scalar.indexCast arg11
  let c0_i32_132 : BitVec 32 := 0#32
  let c1_i32_134 : BitVec 32 := 1#32
  let arg13 : BitVec 32 := Scf.iv c0_i32_132 c1_i32_134 k0_t5
  let c256_i32_164 : BitVec 32 := 256#32
  let v464 : BitVec 32 := Scalar.muli arg13 c256_i32_164
  let c4096_i32 : BitVec 32 := 4096#32
  let v465 : BitVec 32 := Scalar.addi v464 c4096_i32
  let v466 : BitVec 32 := Scalar.addi v465 c0_i32_165
  let v468 : Index := Scalar.indexCast v466
  ![v467.toNat, v468.toNat]
def k0_off9 (k0_t1 : Fin k0_t1_loop.trips) (k0_t4 : Fin k0_t4_loop.trips) : Fin 2 → Nat :=
  let c2_i32_116 : BitVec 32 := 2#32
  let c0_i32_101 : BitVec 32 := 0#32
  let c1_i32 : BitVec 32 := 1#32
  let arg9 : BitVec 32 := Scf.iv c0_i32_101 c1_i32 k0_t1
  let v278 : BitVec 32 := Scalar.muli c2_i32_116 arg9
  let c1_i32_117 : BitVec 32 := 1#32
  let v279 : BitVec 32 := Scalar.addi v278 c1_i32_117
  let c4_i32_136 : BitVec 32 := 4#32
  let v291 : BitVec 32 := Scalar.muli v279 c4_i32_136
  let c0_i32_123 : BitVec 32 := 0#32
  let c1_i32_125 : BitVec 32 := 1#32
  let arg11 : BitVec 32 := Scf.iv c0_i32_123 c1_i32_125 k0_t4
  let v292 : BitVec 32 := Scalar.addi v291 arg11
  let v305 : Index := Scalar.indexCast v292
  let c0 : Index := 0#32
  ![v305.toNat, 0]
def k0_off10 (k0_t1 : Fin k0_t1_loop.trips) (k0_t4 : Fin k0_t4_loop.trips) : Fin 2 → Nat :=
  let c2_i32_116 : BitVec 32 := 2#32
  let c0_i32_101 : BitVec 32 := 0#32
  let c1_i32 : BitVec 32 := 1#32
  let arg9 : BitVec 32 := Scf.iv c0_i32_101 c1_i32 k0_t1
  let v278 : BitVec 32 := Scalar.muli c2_i32_116 arg9
  let c1_i32_117 : BitVec 32 := 1#32
  let v279 : BitVec 32 := Scalar.addi v278 c1_i32_117
  let c4_i32_136 : BitVec 32 := 4#32
  let v291 : BitVec 32 := Scalar.muli v279 c4_i32_136
  let c0_i32_123 : BitVec 32 := 0#32
  let c1_i32_125 : BitVec 32 := 1#32
  let arg11 : BitVec 32 := Scf.iv c0_i32_123 c1_i32_125 k0_t4
  let v292 : BitVec 32 := Scalar.addi v291 arg11
  let v319 : Index := Scalar.indexCast v292
  let c16 : Index := 16#32
  ![v319.toNat, 16]
def k0_cond2 (k0_t1 : Fin k0_t1_loop.trips) : BitVec 1 :=
  let c2_i32_116 : BitVec 32 := 2#32
  let c0_i32_101 : BitVec 32 := 0#32
  let c1_i32 : BitVec 32 := 1#32
  let arg9 : BitVec 32 := Scf.iv c0_i32_101 c1_i32 k0_t1
  let v278 : BitVec 32 := Scalar.muli c2_i32_116 arg9
  let c1_i32_117 : BitVec 32 := 1#32
  let v279 : BitVec 32 := Scalar.addi v278 c1_i32_117
  let c2_i32_127 : BitVec 32 := 2#32
  let v284 : BitVec 32 := Scalar.addi v279 c2_i32_127
  let c14_i32_128 : BitVec 32 := 14#32
  let v285 : BitVec 1 := Scalar.cmpi .slt v284 c14_i32_128
  let v286 : BitVec 32 := Scalar.extui v285
  let c0_i32_129 : BitVec 32 := 0#32
  let v287 : BitVec 1 := Scalar.cmpi .ne v286 c0_i32_129
  v287

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c56_i32 : BitVec 32 := 56#32
  let v2 : BitVec 32 := Scalar.muli v1 c56_i32
  let c2_i32_116 : BitVec 32 := 2#32
  let c0_i32_101 : BitVec 32 := 0#32
  let c1_i32 : BitVec 32 := 1#32
  let arg9 : BitVec 32 := Scf.iv c0_i32_101 c1_i32 k0_t1
  let v278 : BitVec 32 := Scalar.muli c2_i32_116 arg9
  let c1_i32_117 : BitVec 32 := 1#32
  let v279 : BitVec 32 := Scalar.addi v278 c1_i32_117
  let c2_i32_131 : BitVec 32 := 2#32
  let v288 : BitVec 32 := Scalar.addi v279 c2_i32_131
  let c4_i32_132 : BitVec 32 := 4#32
  let v289 : BitVec 32 := Scalar.muli v288 c4_i32_132
  let v290 : BitVec 32 := Scalar.addi v2 v289
  let c0_i32_133 : BitVec 32 := 0#32
  ![v290.toNat, 0]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c56_i32 : BitVec 32 := 56#32
  let v2 : BitVec 32 := Scalar.muli v1 c56_i32
  let c0_i32_103_r0 : BitVec 32 := 0#32
  ![v2.toNat, 0]
abbrev grid1 : Pipeline.Grid := ⟨1, ![9], ![false]⟩

def cc1_transform_0 (i : grid1.Coords) : Fin 2 → Nat :=
  let arg0 : BitVec 32 := BitVec.ofNat 32 (i 0).val
  let c7_i32 : BitVec 32 := 7#32
  let v0 : BitVec 32 := Scalar.addi arg0 c7_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x32 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x8192 : Shape := ⟨2, ![4096, 8192]⟩
abbrev S4096x32x256 : Shape := ⟨3, ![4096, 32, 256]⟩
abbrev S256 : Shape := ⟨1, ![256]⟩
abbrev S_ : Shape := ⟨0, ![]⟩
abbrev S1x1x256 : Shape := ⟨3, ![1, 1, 256]⟩
abbrev S4096x32 : Shape := ⟨2, ![4096, 32]⟩

abbrev nBuf : Space → Nat
  | .hbm => 48
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x32x256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .i1⟩
  | .hbm, ⟨13, _⟩ => ⟨S_, .f32⟩
  | .hbm, ⟨14, _⟩ => ⟨S256, .f32⟩
  | .hbm, ⟨15, _⟩ => ⟨S256, .i1⟩
  | .hbm, ⟨16, _⟩ => ⟨S_, .f32⟩
  | .hbm, ⟨17, _⟩ => ⟨S_, .i1⟩
  | .hbm, ⟨18, _⟩ => ⟨S256, .i1⟩
  | .hbm, ⟨19, _⟩ => ⟨S256, .i1⟩
  | .hbm, ⟨20, _⟩ => ⟨S256, .i1⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S1x1x256, .f32⟩
  | .hbm, ⟨25, _⟩ => ⟨S4096x32x256, .f32⟩
  | .hbm, ⟨26, _⟩ => ⟨S4096x32x256, .f32⟩
  | .hbm, ⟨27, _⟩ => ⟨S_, .f32⟩
  | .hbm, ⟨28, _⟩ => ⟨S4096x32, .f32⟩
  | .hbm, ⟨29, _⟩ => ⟨S_, .f32⟩
  | .hbm, ⟨30, _⟩ => ⟨S_, .f32⟩
  | .hbm, ⟨31, _⟩ => ⟨S4096x32, .f32⟩
  | .hbm, ⟨32, _⟩ => ⟨S4096x32, .f32⟩
  | .hbm, ⟨33, _⟩ => ⟨S_, .f32⟩
  | .hbm, ⟨34, _⟩ => ⟨S4096x32, .f32⟩
  | .hbm, ⟨35, _⟩ => ⟨S4096x32, .i1⟩
  | .hbm, ⟨36, _⟩ => ⟨S_, .f32⟩
  | .hbm, ⟨37, _⟩ => ⟨S4096x32, .f32⟩
  | .hbm, ⟨38, _⟩ => ⟨S4096x32, .i1⟩
  | .hbm, ⟨39, _⟩ => ⟨S_, .f32⟩
  | .hbm, ⟨40, _⟩ => ⟨S_, .i1⟩
  | .hbm, ⟨41, _⟩ => ⟨S4096x32, .i1⟩
  | .hbm, ⟨42, _⟩ => ⟨S4096x32, .i1⟩
  | .hbm, ⟨43, _⟩ => ⟨S4096x32, .i1⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .i32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_cst : Ref sig .tc := ⟨.hbm, 33, rfl⟩
abbrev main_call1_v3 : Ref sig .tc := ⟨.hbm, 34, rfl⟩
abbrev main_call1_v4 : Ref sig .tc := ⟨.hbm, 35, rfl⟩
abbrev main_call1_cst_0 : Ref sig .tc := ⟨.hbm, 36, rfl⟩
abbrev main_call1_v5 : Ref sig .tc := ⟨.hbm, 37, rfl⟩
abbrev main_call1_v6 : Ref sig .tc := ⟨.hbm, 38, rfl⟩
abbrev main_call1_cst_1 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_v9 : Ref sig .tc := ⟨.hbm, 46, rfl⟩
abbrev main_v10 : Ref sig .tc := ⟨.hbm, 47, rfl⟩

abbrev nD : Nat := 1
abbrev τ : Topo := Topo.v7x

variable {F : FTy → Type} [FloatOps F]
-- ==== Proof.Setup.lean ====
/-
  The launch set-up shared by the modules about `KernelIdeal`: the program as the SparseCore launch theorem sees it, the
  ghost state, the arrays and scratch buffers under short names, and the values the kernel computes, written once for
  any reading `F` of the float formats.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof.Hash

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program at launch -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱P : Variants := 𝒱₀.lift
abbrev v₀ : 𝒱P.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The TensorCore pipeline's rounds, in the middle of the three. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP (F := F)).LandsIn (upEmb : UEmb _ 𝕄) := by unfold EP; infer_instance

/-! ## The arrays, as the TensorCore names them -/

abbrev xLoc (d : Dev nD) : Loc nD τ sig := (SparseCore.T d).loc main_arg0
abbrev aLoc (d : Dev nD) : Loc nD τ sig := (SparseCore.T d).loc main_v0
abbrev bLoc (d : Dev nD) : Loc nD τ sig := (SparseCore.T d).loc main_v1
abbrev oLoc (d : Dev nD) : Loc nD τ sig := (SparseCore.T d).loc main_v2

/-! ## A tile's operands and scratch -/

abbrev xV : Memref sig .scVector .hbm S4096x8192 .f32 := Memref.whole main_arg0_scv
abbrev aV : Memref sig .scVector .hbm S1792x32 .i32 := Memref.whole main_v0_scv
abbrev b0V : Memref sig .scVector .vmem S4x8192 .f32 := Memref.whole cc0_scratch0
abbrev b1V : Memref sig .scVector .vmem S4x8192 .f32 := Memref.whole cc0_scratch1
abbrev tV : Memref sig .scVector .vmem S56x32 .i32 := Memref.whole cc0_scratch2

/-- The SparseCore and the subcore of grid point `L`, and its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## The values -/

variable [FloatOps F]

/-- The remainder a tile computes of sixteen lanes by a positive constant: the truncated remainder, shifted up by the
    constant where it is negative. -/
def modV (c : F .f32) (v : FVec F S16 .f32) : FVec F S16 .f32 :=
  have r : FVec F S16 .f32 := remf v (broadcast S16 c)
  select (andi (cmpf .olt r (broadcast S16 (Scalar.ofBits .f32 0x00000000#32)))
      (xori (cmpf .oeq r (broadcast S16 (Scalar.ofBits .f32 0x00000000#32))) (constantI S16 1 1#1)))
    (addf r (broadcast S16 c)) r

/-- The tile's lane numbers. -/
abbrev laneV : IVec S16 32 := iota .scVector S16 32 [0] iota_S16_d0_w32_scVector

/-- The weights of the sixteen positions `16 k + lane` of a chunk. -/
def wV (k : Fin 16) : FVec F S16 .f32 :=
  modV (Scalar.ofBits .f32 0x4E6E6B28#32)
    (mulf (sitofp .f32 (addi laneV (broadcast S16 (BitVec.ofNat 32 (16 * k.val))))) (broadcast S16 (Scalar.ofBits .f32 0x4F1E377A#32)))

/-- Sixteen vectors of sixteen lanes, summed by halving. -/
def treeV (p : Fin 16 → FVec F S16 .f32) : FVec F S16 .f32 :=
  addf (addf (addf (addf (p 0) (p 1)) (addf (p 2) (p 3))) (addf (addf (p 4) (p 5)) (addf (p 6) (p 7))))
    (addf (addf (addf (p 8) (p 9)) (addf (p 10) (p 11))) (addf (addf (p 12) (p 13)) (addf (p 14) (p 15))))

/-- The sixteen lanes of a vector, summed from the left. -/
def lanesS (v : FVec F S16 .f32) : F .f32 :=
  have a (k : Fin 16) : F .f32 := v (ix1 k)
  Scalar.addf (Scalar.addf (Scalar.addf (Scalar.addf (Scalar.addf (Scalar.addf (Scalar.addf (Scalar.addf (Scalar.addf
    (Scalar.addf (Scalar.addf (Scalar.addf (Scalar.addf (Scalar.addf (Scalar.addf (a 0) (a 1)) (a 2)) (a 3)) (a 4)) (a 5)) (a 6)) (a 7))
    (a 8)) (a 9)) (a 10)) (a 11)) (a 12)) (a 13)) (a 14)) (a 15)

/-- Position `256 s + 16 k + lane` of a row. -/
abbrev colOf (s : Fin 32) (k l : Fin 16) : Fin 8192 := ⟨256 * s.val + 16 * k.val + l.val, by omega⟩

/-- The hash sum of chunk `s` of a row of 8192 entries, as a tile adds it up. -/
def sumS (w : Fin 16 → FVec F S16 .f32) (g : Fin 8192 → F .f32) (s : Fin 32) : F .f32 :=
  lanesS (treeV fun k => mulf (fun l => g (colOf s k (l 0))) (w k))

/-- A hash sum reduced modulo 1024 and converted to an integer, lane by lane. -/
def outV (v : FVec F S16 .f32) : IVec S16 32 := fptosi 32 (modV (Scalar.ofBits .f32 0x44800000#32) v)

/-- The same of one value. -/
def outS (x : F .f32) : BitVec 32 := outV (fun _ => x) (ix1 0)

theorem outV_apply (v : FVec F S16 .f32) (l : S16.Idx) : outV v l = outS (v l) := rfl

/-- The SparseCores' result: the hashes of rows 0 to 1791. -/
def valA (x : S4096x8192.Idx → F .f32) : S1792x32.Idx → BitVec 32 := fun i =>
  outS (sumS wV (fun c => x (ix2 ⟨(i 0).val, lt_trans (i 0).isLt (by decide)⟩ c)) (i 1))

end Cert.Proof.Hash

end
-- ==== Proof.Chunk.lean ====
/-
  The inner loops of the tiles' kernel: one trip reads the 2 x 256 entries of two chunks of a row, forms their hash sums
  and places each in its lane; sixteen trips fill both lane vectors with the row's thirty-two sums.
-/
module

public import proofs.«01_k».proof.Proof.Setup

@[expose] public section

set_option maxRecDepth 16384

noncomputable section

namespace Cert.Proof.Hash

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- Column `c` of row `r` of a staged block. -/
abbrev rowOf (f : S4x8192.Idx → F .f32) (r : Fin 4) : Fin 8192 → F .f32 := fun c => f (ix2 r c)

/-- `v` at lane `c`, `u` elsewhere. -/
def atLane (c : ℕ) (v : F .f32) (u : FVec F S16 .f32) : FVec F S16 .f32 := fun l => if (l 0).val = c then v else u l

/-- Chunk `c`, and chunk `16 + c`. -/
abbrev loS (c : Fin 16) : Fin 32 := ⟨c.val, by omega⟩
abbrev hiS (c : Fin 16) : Fin 32 := ⟨16 + c.val, by omega⟩

/-- The sixteen weight vectors a loop is given, the last one still to be reduced. -/
abbrev wsOf (v19 v35 v51 v67 v83 v99 v115 v131 v147 v163 v179 v195 v211 v227 v243 v248 : FVec F S16 .f32) : Fin 16 → FVec F S16 .f32 :=
  ![v19, v35, v51, v67, v83, v99, v115, v131, v147, v163, v179, v195, v211, v227, v243, k0_pay1 v248]

/-! ## Sixteen lanes in and out -/

omit [FloatOps F] in
theorem lane_index (k : Fin 16) : (Shape.reshapeEquiv shapeCasts_S1x16_S16 (ix1 k) : S1x16.Idx) = ix2 0 k := by
  decide +revert +kernel

omit [FloatOps F] in
theorem lane_of (v : FVec F S16 .f32) (k : Fin 16) (h : S16.Slices ![k.val] S1) (h' : ∀ a, (![0] : Fin 1 → ℕ) a < S1.size a) :
    extractAt ![0] (extractStridedSlice S1 ![k.val] v h) h' = v (ix1 k) := by
  unfold extractAt extractStridedSlice
  refine congrArg v (funext fun a => ?_)
  match a with
  | ⟨0, _⟩ => exact Fin.ext (by simp)

/-- The sum of a vector's lanes as the loops print it. -/
theorem sum_of_pay29 (p : Fin 16 → FVec F S16 .f32) :
    k0_pay29 (p 10) (p 11) (p 12) (p 13) (p 14) (p 15) (addf (p 0) (p 1)) (addf (p 2) (p 3)) (addf (p 4) (p 5)) (addf (p 6) (p 7)) (addf (p 8) (p 9))
      = lanesS (treeV p) := by
  unfold k0_pay29 lanesS
  dsimp only
  iterate 15 refine congrArg₂ Scalar.addf ?_ (lane_of _ ⟨_, by decide⟩ _ _)
  exact lane_of _ 0 _ _

/-- Sixteen consecutive entries of a row of the staged block, as a vector of lanes. -/
theorem load0 (d : Dev nD) (L : grid0.Coords) (f : Buf (Elt F) ((thr d L).loc cc0_scratch0)) (r : Fin 4) (s : Fin 32) (k : Fin 16)
    (off : Fin 2 → ℕ) (ho : off = ![r.val, 256 * s.val + 16 * k.val]) (h : ∀ a, off a + S1x16.size a ≤ S4x8192.size a) :
    shapeCast S16 (View.readAt (Elt F) (b0V).view (Rect.unit (s := S4x8192) off S1x16.size h).toLoadRect f) shapeCasts_S1x16_S16
      = fun l => rowOf f r (colOf s k (l 0)) := by
  subst ho
  funext l
  obtain ⟨j, rfl⟩ : ∃ j : Fin 16, l = ix1 j := ⟨l 0, eq_ix1 l⟩
  unfold shapeCast
  rw [lane_index, View.readAt_apply]
  refine congrArg f (funext fun a => ?_)
  match a with
  | ⟨0, _⟩ => exact Fin.ext (show r.val + 1 * 0 = r.val by omega)
  | ⟨1, _⟩ => exact Fin.ext (show 256 * s.val + 16 * k.val + 1 * j.val = 256 * s.val + 16 * k.val + j.val by omega)

theorem load1 (d : Dev nD) (L : grid0.Coords) (f : Buf (Elt F) ((thr d L).loc cc0_scratch1)) (r : Fin 4) (s : Fin 32) (k : Fin 16)
    (off : Fin 2 → ℕ) (ho : off = ![r.val, 256 * s.val + 16 * k.val]) (h : ∀ a, off a + S1x16.size a ≤ S4x8192.size a) :
    shapeCast S16 (View.readAt (Elt F) (b1V).view (Rect.unit (s := S4x8192) off S1x16.size h).toLoadRect f) shapeCasts_S1x16_S16
      = fun l => rowOf f r (colOf s k (l 0)) :=
  load0 d L f r s k off ho h

/-- The sum of a vector's lanes as the loops print it for the upper half of a row. -/
theorem sum_of_pay47 (p : Fin 16 → FVec F S16 .f32) :
    k0_pay47 (p 14) (p 15) (addf (p 0) (p 1)) (addf (p 2) (p 3)) (addf (p 4) (p 5)) (addf (p 6) (p 7)) (addf (p 8) (p 9)) (addf (p 10) (p 11)) (addf (p 12) (p 13))
      = lanesS (treeV p) :=
  sum_of_pay29 p

theorem sumS_of (X : Fin 16 → Vec F S1x16 .f32) (w : Fin 16 → FVec F S16 .f32) (g : Fin 8192 → F .f32) (s : Fin 32)
    (hX : ∀ k, shapeCast S16 (X k) shapeCasts_S1x16_S16 = fun l => g (colOf s k (l 0))) :
    lanesS (treeV fun k => mulf (shapeCast S16 (X k) shapeCasts_S1x16_S16) (w k)) = sumS w g s := by
  simp only [hX]
  rfl

omit [FloatOps F] in
theorem lane_test (c j : Fin 16) : cmpi .eq laneV (broadcast S16 (Scf.iv 0#32 1#32 c.val)) (ix1 j) = if j.val = c.val then 1#1 else 0#1 := by
  decide +revert +kernel

theorem at_lane (c : ℕ) (hc : c < 16) (v : F .f32) (u : FVec F S16 .f32) :
    k0_pay48 laneV u (Scf.iv 0#32 1#32 c) v = atLane c v u := by
  funext l
  obtain ⟨j, rfl⟩ : ∃ j : Fin 16, l = ix1 j := ⟨l 0, eq_ix1 l⟩
  show Scalar.select (cmpi .eq laneV (broadcast S16 (Scf.iv 0#32 1#32 c)) (ix1 j)) v (u (ix1 j)) = if j.val = c then v else u (ix1 j)
  rw [lane_test ⟨c, hc⟩ j]
  unfold Scalar.select
  by_cases h : j.val = c <;> simp [h]

variable (d : Dev nD) (L : grid0.Coords) (v19 v35 v51 v67 v83 v99 v115 v131 v147 v163 v179 v195 v211 v227 v243 v248 : FVec F S16 .f32)

/-- One trip of the chunk loop on the first buffer: chunks `c` and `16 + c` of row `r` summed, each sum put in lane `c`. -/
theorem trip3 (q : PosShare TreeShare) (f : Buf (Elt F) ((thr d L).loc cc0_scratch0)) (r : Fin k0_t2_loop.trips) (c : Fin k0_t3_loop.trips)
    (b : BitVec 32) (lo hi : FVec F S16 .f32) :
    ((b0V).view.loc (thr d L) ↦{q} f : sProp 𝕄)
      ⊢ wp frame (wpE (defs₀ (F := F)) 𝒱₀ (thr d L) none) Set.univ
          (k0_t3_body L xV (Memref.isWhole_whole _) aV (Memref.isWhole_whole _) b0V (Memref.isWhole_whole _) b1V (Memref.isWhole_whole _)
            tV (Memref.isWhole_whole _) cc0_scratch3 cc0_scratch4 cc0_scoped0 laneV v19 v35 v51 v67 v83 v99 v115 v131 v147 v163 v179 v195 v211 v227 v243 v248 r b c (lo, hi))
          fun p => iprop(⌜p = (atLane c.val (sumS (wsOf v19 v35 v51 v67 v83 v99 v115 v131 v147 v163 v179 v195 v211 v227 v243 v248) (rowOf f (r.castLE k0_t2_abs.2.1)) (loS (c.castLE k0_t3_abs.2.1))) lo,
              atLane c.val (sumS (wsOf v19 v35 v51 v67 v83 v99 v115 v131 v147 v163 v179 v195 v211 v227 v243 v248) (rowOf f (r.castLE k0_t2_abs.2.1)) (hiS (c.castLE k0_t3_abs.2.1))) hi)⌝
            ∗ (b0V).view.loc (thr d L) ↦{q} f) := by
  unfold k0_t3_body
  iintro H
  sl_exec
  sl_step
  isplitr
  swap; · iexact H
  ipureintro
  refine Prod.ext ?_ ?_
  · show trip3.sl.r_38 d L v19 v35 v51 v67 v83 v99 v115 v131 v147 v163 v179 v195 v211 v227 v243 v248 f r c lo = _
    sl_unfold_run_names
    refine (at_lane c.val (Nat.lt_of_lt_of_le c.isLt k0_t3_abs.2.1) _ lo).trans (congrArg (fun v => atLane c.val v lo) ?_)
    exact (sum_of_pay29 fun k => mulf (shapeCast S16 (View.readAt (Elt F) (b0V).view (Rect.unit (s := S4x8192) (k0_off2 r c (BitVec.ofNat 32 (16 * k.val))) S1x16.size (k0_off2_inb r c k)).toLoadRect f) shapeCasts_S1x16_S16)
      (wsOf v19 v35 v51 v67 v83 v99 v115 v131 v147 v163 v179 v195 v211 v227 v243 v248 k)).trans
      (sumS_of _ _ _ _ fun k => load0 d L f (r.castLE k0_t2_abs.2.1) (loS (c.castLE k0_t3_abs.2.1)) k _ (k0_off2_eq r c k) _)
  · show k0_pay48 laneV hi (Scf.iv 0#32 1#32 c.val) (trip3.sl.r_37 d L v19 v35 v51 v67 v83 v99 v115 v131 v147 v163 v179 v195 v211 v227 v243 v248 f r c) = _
    sl_unfold_run_names
    refine (at_lane c.val (Nat.lt_of_lt_of_le c.isLt k0_t3_abs.2.1) _ hi).trans (congrArg (fun v => atLane c.val v hi) ?_)
    exact (sum_of_pay47 fun k => mulf (shapeCast S16 (View.readAt (Elt F) (b0V).view (Rect.unit (s := S4x8192) (k0_off3 r c (BitVec.ofNat 32 (16 * k.val))) S1x16.size (k0_off3_inb r c k)).toLoadRect f) shapeCasts_S1x16_S16)
      (wsOf v19 v35 v51 v67 v83 v99 v115 v131 v147 v163 v179 v195 v211 v227 v243 v248 k)).trans
      (sumS_of _ _ _ _ fun k => load0 d L f (r.castLE k0_t2_abs.2.1) (hiS (c.castLE k0_t3_abs.2.1)) k _ ((k0_off3_eq r c k).trans (by
        refine congrArg (fun x => ![r.val, x]) ?_
        show 256 * c.val + 16 * k.val + 4096 = 256 * (16 + c.val) + 16 * k.val
        omega)) _)

/-- The same trip on the second buffer. -/
theorem trip5 (q : PosShare TreeShare) (f : Buf (Elt F) ((thr d L).loc cc0_scratch1)) (r : Fin k0_t4_loop.trips) (c : Fin k0_t5_loop.trips)
    (b : BitVec 32) (lo hi : FVec F S16 .f32) :
    ((b1V).view.loc (thr d L) ↦{q} f : sProp 𝕄)
      ⊢ wp frame (wpE (defs₀ (F := F)) 𝒱₀ (thr d L) none) Set.univ
          (k0_t5_body L xV (Memref.isWhole_whole _) aV (Memref.isWhole_whole _) b0V (Memref.isWhole_whole _) b1V (Memref.isWhole_whole _)
            tV (Memref.isWhole_whole _) cc0_scratch3 cc0_scratch4 cc0_scoped0 laneV v19 v35 v51 v67 v83 v99 v115 v131 v147 v163 v179 v195 v211 v227 v243 v248 r b c (lo, hi))
          fun p => iprop(⌜p = (atLane c.val (sumS (wsOf v19 v35 v51 v67 v83 v99 v115 v131 v147 v163 v179 v195 v211 v227 v243 v248) (rowOf f (r.castLE k0_t4_abs.2.1)) (loS (c.castLE k0_t5_abs.2.1))) lo,
              atLane c.val (sumS (wsOf v19 v35 v51 v67 v83 v99 v115 v131 v147 v163 v179 v195 v211 v227 v243 v248) (rowOf f (r.castLE k0_t4_abs.2.1)) (hiS (c.castLE k0_t5_abs.2.1))) hi)⌝
            ∗ (b1V).view.loc (thr d L) ↦{q} f) := by
  unfold k0_t5_body
  iintro H
  sl_exec
  sl_step
  isplitr
  swap; · iexact H
  ipureintro
  refine Prod.ext ?_ ?_
  · show trip5.sl.r_38 d L v19 v35 v51 v67 v83 v99 v115 v131 v147 v163 v179 v195 v211 v227 v243 v248 f r c lo = _
    sl_unfold_run_names
    refine (at_lane c.val (Nat.lt_of_lt_of_le c.isLt k0_t5_abs.2.1) _ lo).trans (congrArg (fun v => atLane c.val v lo) ?_)
    exact (sum_of_pay29 fun k => mulf (shapeCast S16 (View.readAt (Elt F) (b1V).view (Rect.unit (s := S4x8192) (k0_off7 r c (BitVec.ofNat 32 (16 * k.val))) S1x16.size (k0_off7_inb r c k)).toLoadRect f) shapeCasts_S1x16_S16)
      (wsOf v19 v35 v51 v67 v83 v99 v115 v131 v147 v163 v179 v195 v211 v227 v243 v248 k)).trans
      (sumS_of _ _ _ _ fun k => load1 d L f (r.castLE k0_t4_abs.2.1) (loS (c.castLE k0_t5_abs.2.1)) k _ (k0_off7_eq r c k) _)
  · show k0_pay88 laneV hi (Scf.iv 0#32 1#32 c.val) (trip5.sl.r_37 d L v19 v35 v51 v67 v83 v99 v115 v131 v147 v163 v179 v195 v211 v227 v243 v248 f r c) = _
    sl_unfold_run_names
    refine (at_lane c.val (Nat.lt_of_lt_of_le c.isLt k0_t5_abs.2.1) _ hi).trans (congrArg (fun v => atLane c.val v hi) ?_)
    exact (sum_of_pay47 fun k => mulf (shapeCast S16 (View.readAt (Elt F) (b1V).view (Rect.unit (s := S4x8192) (k0_off8 r c (BitVec.ofNat 32 (16 * k.val))) S1x16.size (k0_off8_inb r c k)).toLoadRect f) shapeCasts_S1x16_S16)
      (wsOf v19 v35 v51 v67 v83 v99 v115 v131 v147 v163 v179 v195 v211 v227 v243 v248 k)).trans
      (sumS_of _ _ _ _ fun k => load1 d L f (r.castLE k0_t4_abs.2.1) (hiS (c.castLE k0_t5_abs.2.1)) k _ ((k0_off8_eq r c k).trans (by
        refine congrArg (fun x => ![r.val, x]) ?_
        show 256 * c.val + 16 * k.val + 4096 = 256 * (16 + c.val) + 16 * k.val
        omega)) _)

end Cert.Proof.Hash

end
-- ==== Proof.Row.lean ====
/-
  The inner loops of the tiles' kernel: one trip reads the 2 x 256 entries of two chunks of a row, forms their hash sums
  and places each in its lane; sixteen trips fill both lane vectors with the row's thirty-two sums.
-/
module

public import proofs.«01_k».proof.Proof.Chunk

@[expose] public section

set_option maxRecDepth 16384

noncomputable section

namespace Cert.Proof.Hash

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- The weights a loop works with: the last of the sixteen vectors is reduced inside the loops. -/
abbrev wsV (v : Fin 16 → FVec F S16 .f32) : Fin 16 → FVec F S16 .f32 :=
  wsOf (v 0) (v 1) (v 2) (v 3) (v 4) (v 5) (v 6) (v 7) (v 8) (v 9) (v 10) (v 11) (v 12) (v 13) (v 14) (v 15)

/-- The first `n` lanes of `z`, zero elsewhere. -/
def upTo (n : ℕ) (z : Fin 16 → F .f32) : FVec F S16 .f32 := fun l => if (l 0).val < n then z (l 0) else Scalar.ofBits .f32 0x00000000#32

theorem upTo_zero (z : Fin 16 → F .f32) : upTo 0 z = k0_pay2 := by
  funext l
  exact if_neg (Nat.not_lt_zero _)

theorem upTo_succ (n : ℕ) (hn : n < 16) (z : Fin 16 → F .f32) : atLane n (z ⟨n, hn⟩) (upTo n z) = upTo (n + 1) z := by
  funext l
  obtain ⟨j, rfl⟩ : ∃ j : Fin 16, l = ix1 j := ⟨l 0, eq_ix1 l⟩
  show (if j.val = n then z ⟨n, hn⟩ else if j.val < n then z j else _) = if j.val < n + 1 then z j else _
  rcases Nat.lt_trichotomy j.val n with h | h | h
  · rw [if_neg (by omega), if_pos h, if_pos (by omega)]
  · obtain rfl : j = ⟨n, hn⟩ := Fin.ext h
    rw [if_pos rfl, if_pos (by simp)]
  · rw [if_neg (by omega), if_neg (by omega), if_neg (by omega)]

theorem upTo_all (z : Fin 16 → F .f32) : upTo 16 z = fun l => z (l 0) := by
  funext l
  exact if_pos (l 0).isLt

variable (d : Dev nD) (L : grid0.Coords) (v : Fin 16 → FVec F S16 .f32)

omit [FloatOps F] in
theorem trips_t2 : k0_t2_loop.trips = 4 := by decide +kernel
omit [FloatOps F] in
theorem trips_t3 : k0_t3_loop.trips = 16 := by decide +kernel
omit [FloatOps F] in
theorem trips_t4 : k0_t4_loop.trips = 4 := by decide +kernel
omit [FloatOps F] in
theorem trips_t5 : k0_t5_loop.trips = 16 := by decide +kernel

/-- The sums of the lower and upper half of row `r` over the first `n` chunks of each. -/
abbrev halves (n : ℕ) (g : Fin 8192 → F .f32) : FVec F S16 .f32 × FVec F S16 .f32 :=
  (upTo n fun c => sumS (wsV v) g (loS c), upTo n fun c => sumS (wsV v) g (hiS c))

/-- Between two trips of the chunk loop. -/
def inv3 (q : PosShare TreeShare) (f : Buf (Elt F) ((thr d L).loc cc0_scratch0)) (r : Fin 4) (n : ℕ) (p : FVec F S16 .f32 × FVec F S16 .f32) : sProp 𝕄 :=
  iprop(⌜p = halves v n (rowOf f r)⌝ ∗ (b0V).view.loc (thr d L) ↦{q} f)

/-- The hashes of the fifty-six rows `X` of a tile. -/
def valT (w : Fin 16 → FVec F S16 .f32) (X : Fin 56 → Fin 8192 → F .f32) : S56x32.Idx → BitVec 32 := fun i => outS (sumS w (X (i 0)) (i 1))

omit [FloatOps F] in
theorem row_index (k : Fin 16) : (Shape.reshapeEquiv shapeCasts_S16_S1x16 (ix2 0 k) : S16.Idx) = ix1 k := by
  decide +revert +kernel

/-- A stored half row holds the hashes of its lanes. -/
theorem pay4_row {X : Fin 56 → Fin 8192 → F .f32} {w : Fin 16 → FVec F S16 .f32} (a : Fin 56) (s : Fin 32) (k : Fin 16) (x : FVec F S16 .f32)
    (hx : x (ix1 k) = sumS w (X a) s) : shapeCast S1x16 (k0_pay4 x) shapeCasts_S16_S1x16 (ix2 0 k) = valT w X (ix2 a s) := by
  show outV x (Shape.reshapeEquiv shapeCasts_S16_S1x16 (ix2 0 k)) = outS (sumS w (X a) s)
  rw [row_index, outV_apply, hx]

/-- The two stores of one row: rows below `ρ` keep their hashes, row `ρ` gets its. -/
theorem rows_step (X : Fin 56 → Fin 8192 → F .f32) (w : Fin 16 → FVec F S16 .f32) (g : Buf (Elt F) ((thr d L).loc cc0_scratch2)) (ρ : Fin 56)
    (off off' : Fin 2 → ℕ) (ho : off = ![ρ.val, 0]) (ho' : off' = ![ρ.val, 16])
    (h : ∀ a, off a + S1x16.size a ≤ S56x32.size a) (h' : ∀ a, off' a + S1x16.size a ≤ S56x32.size a) (x y : FVec F S16 .f32)
    (hx : ∀ c : Fin 16, x (ix1 c) = sumS w (X ρ) (loS c)) (hy : ∀ c : Fin 16, y (ix1 c) = sumS w (X ρ) (hiS c))
    (hg : ∀ i : S56x32.Idx, (i 0).val < ρ.val → g i = valT w X i) :
    ∀ i : S56x32.Idx, (i 0).val < ρ.val + 1 →
      (tV).view.writes (Elt F) g
        [⟨Rect.unit (s := S56x32) off' S1x16.size h', shapeCast S1x16 (k0_pay5 y) shapeCasts_S16_S1x16⟩,
          ⟨Rect.unit (s := S56x32) off S1x16.size h, shapeCast S1x16 (k0_pay4 x) shapeCasts_S16_S1x16⟩] i = valT w X i := by
  subst ho ho'
  intro i hi
  obtain ⟨a, b, rfl⟩ : ∃ (a : Fin 56) (b : Fin 32), i = ix2 a b := ⟨i 0, i 1, eq_ix2 i⟩
  have hi : a.val < ρ.val + 1 := hi
  refine (congrFun (View.read_whole cc0_scratch2 _) (ix2 a b)).symm.trans ?_
  by_cases hb : b.val < 16
  · rw [View.read_writes_cons_miss_of_axis _ _ _ _ _ (1 : Fin 2) 16 16 rfl rfl rfl (.inl hb)]
    by_cases ha : a = ρ
    · subst ha
      rw [View.read_writes_cons_hit_of_coords (x := (ix2 0 ⟨b.val, hb⟩ : S1x16.Idx)) (hx := by
        intro t
        match t with
        | ⟨0, _⟩ => exact (show a.val = a.val + 1 * 0 by omega)
        | ⟨1, _⟩ => exact (show b.val = 0 + 1 * b.val by omega))]
      exact pay4_row a ⟨b.val, by omega⟩ ⟨b.val, hb⟩ x (hx ⟨b.val, hb⟩)
    · rw [View.read_writes_cons_miss_of_axis _ _ _ _ _ (0 : Fin 2) ρ.val 1 rfl rfl rfl (.inl (by
        have : a.val ≠ ρ.val := fun e => ha (Fin.ext e)
        show a.val < ρ.val
        omega))]
      have : a.val ≠ ρ.val := fun e => ha (Fin.ext e)
      exact hg (ix2 a b) (show a.val < ρ.val by omega)
  · have hb' : b.val - 16 < 16 := by omega
    by_cases ha : a = ρ
    · subst ha
      rw [View.read_writes_cons_hit_of_coords (x := (ix2 0 ⟨b.val - 16, hb'⟩ : S1x16.Idx)) (hx := by
        intro t
        match t with
        | ⟨0, _⟩ => exact (show a.val = a.val + 1 * 0 by omega)
        | ⟨1, _⟩ => exact (show b.val = 16 + 1 * (b.val - 16) by omega))]
      refine (pay4_row a (hiS ⟨b.val - 16, hb'⟩) ⟨b.val - 16, hb'⟩ y (hy ⟨b.val - 16, hb'⟩)).trans (congrArg (fun t => valT w X (ix2 a t)) (Fin.ext ?_))
      show 16 + (b.val - 16) = b.val
      omega
    · have hne : a.val ≠ ρ.val := fun e => ha (Fin.ext e)
      rw [View.read_writes_cons_miss_of_axis _ _ _ _ _ (0 : Fin 2) ρ.val 1 rfl rfl rfl (.inl (show a.val < ρ.val by omega)),
        View.read_writes_cons_miss_of_axis _ _ _ _ _ (0 : Fin 2) ρ.val 1 rfl rfl rfl (.inl (show a.val < ρ.val by omega))]
      exact hg (ix2 a b) (show a.val < ρ.val by omega)

/-- The row loop's trip. -/
abbrev body2 (k : Fin k0_t1_loop.trips) := k0_t2_body (F := F) L xV (Memref.isWhole_whole _) aV (Memref.isWhole_whole _) b0V (Memref.isWhole_whole _) b1V (Memref.isWhole_whole _)
    tV (Memref.isWhole_whole _) cc0_scratch3 cc0_scratch4 cc0_scoped0 laneV (v 0) (v 1) (v 2) (v 3) (v 4) (v 5) (v 6) (v 7) (v 8) (v 9) (v 10) (v 11) (v 12) (v 13) (v 14) (v 15) k

/-- Between two trips of the row loop: the buffer as staged, the hashes of the rows below `ρ` in place. -/
def inv2 (X : Fin 56 → Fin 8192 → F .f32) (q : PosShare TreeShare) (f : Buf (Elt F) ((thr d L).loc cc0_scratch0)) (ρ : ℕ) : sProp 𝕄 :=
  iprop(((b0V).view.loc (thr d L) ↦{q} f)
    ∗ ∃ g : Buf (Elt F) ((thr d L).loc cc0_scratch2), ⌜∀ i : S56x32.Idx, (i 0).val < ρ → g i = valT (wsV v) X i⌝ ∗ (tV).view.loc (thr d L) ↦{fullShare} g)

/-- One row: its thirty-two sums, hashed and stored. -/
theorem trip2 (X : Fin 56 → Fin 8192 → F .f32) (k : Fin k0_t1_loop.trips) (r : Fin k0_t2_loop.trips) (b : BitVec 32) (q : PosShare TreeShare)
    (f : Buf (Elt F) ((thr d L).loc cc0_scratch0)) (ρ : Fin 56) (hρ : ρ.val = 8 * k.val + r.val) (hf : rowOf f (r.castLE k0_t2_abs.2.1) = X ρ) :
    inv2 d L v X q f ρ.val
      ⊢ wp frame (wpE (defs₀ (F := F)) 𝒱₀ (thr d L) none) Set.univ (body2 L v k r b) fun _ => inv2 d L v X q f (ρ.val + 1) := by
  unfold body2 k0_t2_body inv2
  iintro ⟨Hb, %g, %hg, Ht⟩
  sl_exec
  sl_for (inv3 d L v q f (r.castLE k0_t2_abs.2.1)) $$ [Hb]
  case region =>
    intro c p
    unfold inv3
    iintro ⟨%hp, Hb⟩
    subst hp
    ihave Hw := (trip3 d L (v 0) (v 1) (v 2) (v 3) (v 4) (v 5) (v 6) (v 7) (v 8) (v 9) (v 10) (v 11) (v 12) (v 13) (v 14) (v 15) q f r c _ _ _) $$ Hb
    iapply (wp_wand _ _ _) $$ Hw
    iintro %p ⟨%hp, Hb⟩
    isplitr; swap; · iexact Hb
    ipureintro
    have hc : c.val < 16 := trips_t3 ▸ c.isLt
    exact hp.trans (Prod.ext (upTo_succ c.val hc fun c => sumS (wsV v) (rowOf f (r.castLE k0_t2_abs.2.1)) (loS c))
      (upTo_succ c.val hc fun c => sumS (wsV v) (rowOf f (r.castLE k0_t2_abs.2.1)) (hiS c)))
  · unfold inv3
    isplitr
    · ipureintro
      exact Prod.ext (upTo_zero fun c => sumS (wsV v) (rowOf f (r.castLE k0_t2_abs.2.1)) (loS c)).symm
        (upTo_zero fun c => sumS (wsV v) (rowOf f (r.castLE k0_t2_abs.2.1)) (hiS c)).symm
    · iexact Hb
  unfold inv3
  iintro %p ⟨%hp, Hb⟩
  sl_exec
  sl_step
  isplitl [Hb]; · iexact Hb
  iexists _
  isplitr; swap; · iexact Ht
  ipureintro
  have hp : p = halves v 16 (rowOf f (r.castLE k0_t2_abs.2.1)) := trips_t3 ▸ hp
  rw [hf] at hp
  subst hp
  refine rows_step d L X (wsV v) g ρ _ _ ?_ ?_ _ _ _ _ (fun c => ?_) (fun c => ?_) hg
  · rw [hρ]; exact k0_off4_eq k r
  · rw [hρ]; exact k0_off5_eq k r
  · exact congrFun (upTo_all fun c => sumS (wsV v) (X ρ) (loS c)) (ix1 c)
  · exact congrFun (upTo_all fun c => sumS (wsV v) (X ρ) (hiS c)) (ix1 c)

/-! ## The second buffer -/

/-- Between two trips of the chunk loop. -/
def inv5 (q : PosShare TreeShare) (f : Buf (Elt F) ((thr d L).loc cc0_scratch1)) (r : Fin 4) (n : ℕ) (p : FVec F S16 .f32 × FVec F S16 .f32) : sProp 𝕄 :=
  iprop(⌜p = halves v n (rowOf f r)⌝ ∗ (b1V).view.loc (thr d L) ↦{q} f)

/-- The row loop's trip. -/
abbrev body4 (k : Fin k0_t1_loop.trips) := k0_t4_body (F := F) L xV (Memref.isWhole_whole _) aV (Memref.isWhole_whole _) b0V (Memref.isWhole_whole _) b1V (Memref.isWhole_whole _)
    tV (Memref.isWhole_whole _) cc0_scratch3 cc0_scratch4 cc0_scoped0 laneV (v 0) (v 1) (v 2) (v 3) (v 4) (v 5) (v 6) (v 7) (v 8) (v 9) (v 10) (v 11) (v 12) (v 13) (v 14) (v 15) k

/-- Between two trips of the row loop: the buffer as staged, the hashes of the rows below `ρ` in place. -/
def inv4 (X : Fin 56 → Fin 8192 → F .f32) (q : PosShare TreeShare) (f : Buf (Elt F) ((thr d L).loc cc0_scratch1)) (ρ : ℕ) : sProp 𝕄 :=
  iprop(((b1V).view.loc (thr d L) ↦{q} f)
    ∗ ∃ g : Buf (Elt F) ((thr d L).loc cc0_scratch2), ⌜∀ i : S56x32.Idx, (i 0).val < ρ → g i = valT (wsV v) X i⌝ ∗ (tV).view.loc (thr d L) ↦{fullShare} g)

/-- One row: its thirty-two sums, hashed and stored. -/
theorem trip4 (X : Fin 56 → Fin 8192 → F .f32) (k : Fin k0_t1_loop.trips) (r : Fin k0_t4_loop.trips) (b : BitVec 32) (q : PosShare TreeShare)
    (f : Buf (Elt F) ((thr d L).loc cc0_scratch1)) (ρ : Fin 56) (hρ : ρ.val = 8 * k.val + r.val + 4) (hf : rowOf f (r.castLE k0_t4_abs.2.1) = X ρ) :
    inv4 d L v X q f ρ.val
      ⊢ wp frame (wpE (defs₀ (F := F)) 𝒱₀ (thr d L) none) Set.univ (body4 L v k r b) fun _ => inv4 d L v X q f (ρ.val + 1) := by
  unfold body4 k0_t4_body inv4
  iintro ⟨Hb, %g, %hg, Ht⟩
  sl_exec
  sl_for (inv5 d L v q f (r.castLE k0_t4_abs.2.1)) $$ [Hb]
  case region =>
    intro c p
    unfold inv5
    iintro ⟨%hp, Hb⟩
    subst hp
    ihave Hw := (trip5 d L (v 0) (v 1) (v 2) (v 3) (v 4) (v 5) (v 6) (v 7) (v 8) (v 9) (v 10) (v 11) (v 12) (v 13) (v 14) (v 15) q f r c _ _ _) $$ Hb
    iapply (wp_wand _ _ _) $$ Hw
    iintro %p ⟨%hp, Hb⟩
    isplitr; swap; · iexact Hb
    ipureintro
    have hc : c.val < 16 := trips_t5 ▸ c.isLt
    exact hp.trans (Prod.ext (upTo_succ c.val hc fun c => sumS (wsV v) (rowOf f (r.castLE k0_t4_abs.2.1)) (loS c))
      (upTo_succ c.val hc fun c => sumS (wsV v) (rowOf f (r.castLE k0_t4_abs.2.1)) (hiS c)))
  · unfold inv5
    isplitr
    · ipureintro
      exact Prod.ext (upTo_zero fun c => sumS (wsV v) (rowOf f (r.castLE k0_t4_abs.2.1)) (loS c)).symm
        (upTo_zero fun c => sumS (wsV v) (rowOf f (r.castLE k0_t4_abs.2.1)) (hiS c)).symm
    · iexact Hb
  unfold inv5
  iintro %p ⟨%hp, Hb⟩
  sl_exec
  sl_step
  isplitl [Hb]; · iexact Hb
  iexists _
  isplitr; swap; · iexact Ht
  ipureintro
  have hp : p = halves v 16 (rowOf f (r.castLE k0_t4_abs.2.1)) := trips_t5 ▸ hp
  rw [hf] at hp
  subst hp
  refine rows_step d L X (wsV v) g ρ _ _ ?_ ?_ _ _ _ _ (fun c => ?_) (fun c => ?_) hg
  · rw [hρ]; exact k0_off9_eq k r
  · rw [hρ]; exact k0_off10_eq k r
  · exact congrFun (upTo_all fun c => sumS (wsV v) (X ρ) (loS c)) (ix1 c)
  · exact congrFun (upTo_all fun c => sumS (wsV v) (X ρ) (hiS c)) (ix1 c)

end Cert.Proof.Hash

end
-- ==== Proof.Tile.lean ====
/-
  One tile's kernel: fifty-six rows of the input, staged four at a time into two buffers in turn, hashed into the tile's
  own table, the table copied out at the end.
-/
module

public import proofs.«01_k».proof.Proof.Row

@[expose] public section

set_option maxRecDepth 16384

noncomputable section

namespace Cert.Proof.Hash

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid0.Coords) (v : Fin 16 → FVec F S16 .f32)

omit [FloatOps F] in
theorem trips_t1 : k0_t1_loop.trips = 7 := by decide +kernel
omit [FloatOps F] in
theorem cond1_iff : ∀ k : Fin k0_t1_loop.trips, k0_cond1 k = 1#1 ↔ k.val < 6 := by decide +kernel
omit [FloatOps F] in
theorem cond2_iff : ∀ k : Fin k0_t1_loop.trips, k0_cond2 k = 1#1 ↔ k.val < 6 := by decide +kernel

omit [FloatOps F] in
theorem bound0 : ∀ L : grid0.Coords, (L 0).val < 2 := fun L => (L 0).isLt
omit [FloatOps F] in
theorem bound1 : ∀ L : grid0.Coords, (L 1).val < 16 := fun L => (L 1).isLt

/-- The first of the fifty-six rows of the tile at `L`. -/
abbrev row0 (L : grid0.Coords) : ℕ := 112 * (L 1).val + 56 * (L 0).val

omit [FloatOps F] in
theorem row0_le (L : grid0.Coords) : row0 L ≤ 1736 := by
  have := bound0 L
  have := bound1 L
  unfold row0
  omega

/-- The tile's rows of the input. -/
def tileX (X : S4096x8192.Idx → F .f32) : Fin 56 → Fin 8192 → F .f32 := fun r c => X (ix2 ⟨row0 L + r.val, by have := row0_le L; omega⟩ c)

/-- What a copy of four rows leaves in a staging buffer. -/
theorem staged0 (X : Buf (Elt F) (xLoc d)) (off : Fin 2 → ℕ) (ρ : ℕ) (ho : off = ![row0 L + ρ, 0]) (h : ∀ a, off a + S4x8192.size a ≤ S4096x8192.size a)
    (f : Buf (Elt F) ((thr d L).loc cc0_scratch0)) (r : Fin 4) (k : Fin 56) (hk : k.val = ρ + r.val) :
    rowOf (View.write (Elt F) (b0V).view f ((xV.slice (Rect.unit (s := S4096x8192) off S4x8192.size h) (fun _ => rfl)).view.read (Elt F) X) Finset.univ) r
      = tileX L X k := by
  subst ho
  funext c
  refine (congrFun (View.write_whole_univ (Val := Elt F) cc0_scratch0 f _) (ix2 r c)).trans ?_
  refine congrArg X (funext fun a => ?_)
  match a with
  | ⟨0, _⟩ => exact Fin.ext (show row0 L + ρ + 1 * r.val = row0 L + k.val by omega)
  | ⟨1, _⟩ => exact Fin.ext (show 0 + 1 * c.val = c.val by omega)

/-- The first buffer while a copy into it of the tile's rows from `ρ` on is under way. -/
def fly0 (X : Buf (Elt F) (xLoc d)) (q : PosShare TreeShare) (ρ : ℕ) : sProp 𝕄 :=
  iprop(∃ (I : Finset (Idx ((xV).view.loc (thr d L)))) (f : Buf (Elt F) ((thr d L).loc cc0_scratch0)),
    ⌜∀ (r : Fin 4) (k : Fin 56), k.val = ρ + r.val → rowOf f r = tileX L X k⌝
    ∗ Transfers.Flight countersEmb (thr d L) (SemLoc.dma cc0_scratch3.sem) (default : HIx 1) 1048576
        iprop(((b0V).view.loc (thr d L) ↦{fullShare} f) ∗ ((xV).view.loc (thr d L) ↦[I]{q} X))
    ∗ ((xV).view.loc (thr d L) ↦[Finset.univ \ I]{q} X))

/-- The first buffer with no copy under way. -/
def idle0 (X : Buf (Elt F) (xLoc d)) (q : PosShare TreeShare) : sProp 𝕄 :=
  iprop((∃ f : Buf (Elt F) ((thr d L).loc cc0_scratch0), (b0V).view.loc (thr d L) ↦{fullShare} f)
    ∗ semVal (thr d L, SemLoc.dma cc0_scratch3.sem) 0 ∗ ((xV).view.loc (thr d L) ↦{q} X))
/-- What a copy of four rows leaves in the other staging buffer. -/
theorem staged1 (X : Buf (Elt F) (xLoc d)) (off : Fin 2 → ℕ) (ρ : ℕ) (ho : off = ![row0 L + ρ, 0]) (h : ∀ a, off a + S4x8192.size a ≤ S4096x8192.size a)
    (f : Buf (Elt F) ((thr d L).loc cc0_scratch1)) (r : Fin 4) (k : Fin 56) (hk : k.val = ρ + r.val) :
    rowOf (View.write (Elt F) (b1V).view f ((xV.slice (Rect.unit (s := S4096x8192) off S4x8192.size h) (fun _ => rfl)).view.read (Elt F) X) Finset.univ) r
      = tileX L X k := by
  subst ho
  funext c
  refine (congrFun (View.write_whole_univ (Val := Elt F) cc0_scratch1 f _) (ix2 r c)).trans ?_
  refine congrArg X (funext fun a => ?_)
  match a with
  | ⟨0, _⟩ => exact Fin.ext (show row0 L + ρ + 1 * r.val = row0 L + k.val by omega)
  | ⟨1, _⟩ => exact Fin.ext (show 0 + 1 * c.val = c.val by omega)

/-- The second buffer while a copy into it of the tile's rows from `ρ` on is under way. -/
def fly1 (X : Buf (Elt F) (xLoc d)) (q : PosShare TreeShare) (ρ : ℕ) : sProp 𝕄 :=
  iprop(∃ (I : Finset (Idx ((xV).view.loc (thr d L)))) (f : Buf (Elt F) ((thr d L).loc cc0_scratch1)),
    ⌜∀ (r : Fin 4) (k : Fin 56), k.val = ρ + r.val → rowOf f r = tileX L X k⌝
    ∗ Transfers.Flight countersEmb (thr d L) (SemLoc.dma cc0_scratch4.sem) (default : HIx 1) 1048576
        iprop(((b1V).view.loc (thr d L) ↦{fullShare} f) ∗ ((xV).view.loc (thr d L) ↦[I]{q} X))
    ∗ ((xV).view.loc (thr d L) ↦[Finset.univ \ I]{q} X))

/-- The second buffer with no copy under way. -/
def idle1 (X : Buf (Elt F) (xLoc d)) (q : PosShare TreeShare) : sProp 𝕄 :=
  iprop((∃ f : Buf (Elt F) ((thr d L).loc cc0_scratch1), (b1V).view.loc (thr d L) ↦{fullShare} f)
    ∗ semVal (thr d L, SemLoc.dma cc0_scratch4.sem) 0 ∗ ((xV).view.loc (thr d L) ↦{q} X))

/-- The pair loop's trip. -/
abbrev body1 := k0_t1_body (F := F) L xV (Memref.isWhole_whole _) aV (Memref.isWhole_whole _) b0V (Memref.isWhole_whole _) b1V (Memref.isWhole_whole _)
    tV (Memref.isWhole_whole _) cc0_scratch3 cc0_scratch4 cc0_scoped0 laneV (v 0) (v 1) (v 2) (v 3) (v 4) (v 5) (v 6) (v 7) (v 8) (v 9) (v 10) (v 11) (v 12) (v 13) (v 14) (v 15)

/-- Between two trips of the pair loop. -/
def inv1 (X : Buf (Elt F) (xLoc d)) (q q' : PosShare TreeShare) (O : CellTallies nD τ sig (HIx 1)) (W : Waits sig (HIx 1)) (n : ℕ) (_ : BitVec 32) : sProp 𝕄 :=
  iprop(Transfers.MayWaits (thr d L) (default : HIx 1) O
    ∗ (∃ g : Buf (Elt F) ((thr d L).loc cc0_scratch2), ⌜∀ i : S56x32.Idx, (i 0).val < 8 * n → g i = valT (wsV v) (tileX L X) i⌝ ∗ (tV).view.loc (thr d L) ↦{fullShare} g)
    ∗ (if n < 7 then fly0 d L X q (8 * n) else idle0 d L X q)
    ∗ (if n < 7 then fly1 d L X q' (8 * n + 4) else idle1 d L X q')
    ∗ ∃ W', ⌜∀ p ∈ W', p ∈ W ∨ p.2 = none⌝ ∗ owes (thr d L) O W')

/-- One trip of the pair loop: a block of four rows from either buffer, the next block of each sent for where one remains. -/
theorem trip1 (X : Buf (Elt F) (xLoc d)) (q q' : PosShare TreeShare) (O : CellTallies nD τ sig (HIx 1)) (W : Waits sig (HIx 1)) (k : Fin k0_t1_loop.trips) (b : BitVec 32) :
    inv1 d L v X q q' O W k.val b
      ⊢ wp frame (wpE (defs₀ (F := F)) 𝒱₀ (thr d L) none) Set.univ (body1 L v k b) fun b' => inv1 d L v X q q' O W (k.val + 1) b' := by
  have hk : k.val < 7 := trips_t1 ▸ k.isLt
  unfold body1 k0_t1_body inv1
  rw [if_pos hk, if_pos hk]
  unfold fly0 fly1
  iintro ⟨Hmw, ⟨%g, %hg, Ht⟩, ⟨%I0, %f0, %hf0, Hfl0, Hx0⟩, ⟨%I1, %f1, %hf1, Hfl1, Hx1⟩, %W', %hW', HO⟩
  sl_exec
  sl_for (fun n (_ : BitVec 32) => inv2 d L v (tileX L X) fullShare f0 (8 * k.val + n)) $$ [Hfl0_dst Ht]
  case region =>
    intro r b
    have hr : r.val < 4 := trips_t2 ▸ r.isLt
    exact trip2 d L v (tileX L X) k r b fullShare f0 ⟨8 * k.val + r.val, by omega⟩ rfl (hf0 _ _ rfl)
  · unfold inv2
    isplitl [Hfl0_dst]; · iexact Hfl0_dst
    iexists _
    isplitr; swap; · iexact Ht
    ipureintro
    exact hg
  unfold inv2
  iintro %_ ⟨Hfl0_dst, %gf0, %hgf0, Ht⟩
  by_cases hc : k.val < 6
  · have h1 := (cond1_iff k).2 hc
    have h2 := (cond2_iff k).2 hc
    rw [if_pos (show k.val + 1 < 7 by omega), if_pos (show k.val + 1 < 7 by omega)]
    sl_exec
    sl_for (fun n (_ : BitVec 32) => inv4 d L v (tileX L X) fullShare f1 (8 * k.val + 4 + n)) $$ [Hfl1_dst Ht]
    case region =>
      intro r b
      have hr : r.val < 4 := trips_t4 ▸ r.isLt
      exact trip4 d L v (tileX L X) k r b fullShare f1 ⟨8 * k.val + 4 + r.val, by omega⟩ (show 8 * k.val + 4 + r.val = 8 * k.val + r.val + 4 by omega) (hf1 _ _ rfl)
    · unfold inv4
      isplitl [Hfl1_dst]; · iexact Hfl1_dst
      iexists _
      isplitr; swap; · iexact Ht
      ipureintro
      exact fun i hi => hgf0 i (by have := trips_t2; unfold Scf.Loop.trips at this; omega)
    unfold inv4
    iintro %_ ⟨Hfl1_dst, %gf1, %hgf1, Ht⟩
    sl_exec
    sl_step
    isplitl [Hmw]; · iexact Hmw
    isplitl [Ht]
    · iexists _
      isplitr; swap; · iexact Ht
      ipureintro
      exact fun i hi => hgf1 i (by have := trips_t4; unfold Scf.Loop.trips at this; omega)
    isplitl [Hfl0 Hx0]
    · iexists _, _
      isplitr
      pick_goal 2
      · isplitl [Hfl0]; · iexact Hfl0
        iexact Hx0
      ipureintro
      intro r m hm
      exact staged0 d L X (k0_off6 L k) (8 * (k.val + 1)) ((k0_off6_eq L k).trans (congrArg (fun x => ![x, 0]) (by unfold row0; omega))) _ f0 r m hm
    isplitl [Hfl1 Hx1]
    · iexists _, _
      isplitr
      pick_goal 2
      · isplitl [Hfl1]; · iexact Hfl1
        iexact Hx1
      ipureintro
      intro r m hm
      exact staged1 d L X (k0_off11 L k) (8 * (k.val + 1) + 4) ((k0_off11_eq L k).trans (congrArg (fun x => ![x, 0]) (by unfold row0; omega))) _ f1 r m hm
    iexists _
    isplitr; swap; · iexact HO
    ipureintro
    intro p hp
    rcases Finset.mem_insert.mp hp with rfl | hp
    · exact .inr rfl
    rcases Finset.mem_insert.mp hp with rfl | hp
    · exact .inr rfl
    · exact hW' p hp
  · have h1 := mt (cond1_iff k).1 hc
    have h2 := mt (cond2_iff k).1 hc
    rw [if_neg (show ¬ k.val + 1 < 7 by omega), if_neg (show ¬ k.val + 1 < 7 by omega)]
    sl_exec
    sl_for (fun n (_ : BitVec 32) => inv4 d L v (tileX L X) fullShare f1 (8 * k.val + 4 + n)) $$ [Hfl1_dst Ht]
    case region =>
      intro r b
      have hr : r.val < 4 := trips_t4 ▸ r.isLt
      exact trip4 d L v (tileX L X) k r b fullShare f1 ⟨8 * k.val + 4 + r.val, by omega⟩ (show 8 * k.val + 4 + r.val = 8 * k.val + r.val + 4 by omega) (hf1 _ _ rfl)
    · unfold inv4
      isplitl [Hfl1_dst]; · iexact Hfl1_dst
      iexists _
      isplitr; swap; · iexact Ht
      ipureintro
      exact fun i hi => hgf0 i (by have := trips_t2; unfold Scf.Loop.trips at this; omega)
    unfold inv4
    iintro %_ ⟨Hfl1_dst, %gf1, %hgf1, Ht⟩
    sl_exec
    sl_step
    isplitl [Hmw]; · iexact Hmw
    isplitl [Ht]
    · iexists _
      isplitr; swap; · iexact Ht
      ipureintro
      exact fun i hi => hgf1 i (by have := trips_t4; unfold Scf.Loop.trips at this; omega)
    isplitl [Hfl0 Hx0 Hfl0_dst]
    · unfold idle0
      isplitl [Hfl0_dst]; · iexists _; iexact Hfl0_dst
      isplitl [Hfl0]; · iexact Hfl0
      iexact Hx0
    isplitl [Hfl1 Hx1 Hfl1_dst]
    · unfold idle1
      isplitl [Hfl1_dst]; · iexists _; iexact Hfl1_dst
      isplitl [Hfl1]; · iexact Hfl1
      iexact Hx1
    iexists _
    isplitr; swap; · iexact HO
    ipureintro
    intro p hp
    rcases Finset.mem_insert.mp hp with rfl | hp
    · exact .inr rfl
    rcases Finset.mem_insert.mp hp with rfl | hp
    · exact .inr rfl
    · exact hW' p hp

/-! ## The whole kernel of a tile -/

/-- The tile's rows of the result. -/
abbrev aSlice (L : grid0.Coords) : Memref sig .scVector .hbm S56x32 .i32 :=
  aV.slice (Rect.unit (s := S1792x32) (k0_off12 L) S56x32.size (k0_off12_inb L)) (fun _ => rfl)

/-- The sixteen weight vectors as the kernel forms them, the last one reduced inside the loops. -/
abbrev vK : Fin 16 → FVec F S16 .f32 :=
  ![k0_pay90 (F := F),
    k0_pay91 (F := F),
    k0_pay94 (F := F) (k0_pay92 (F := F)) (k0_pay93 (F := F)),
    k0_pay95 (F := F) laneV,
    k0_pay98 (F := F) (k0_pay96 (F := F) laneV) (k0_pay97 (F := F) laneV) (FloatOps.ofBits FTy.f32 1315859240#32),
    k0_pay99 (F := F) laneV,
    k0_pay100 (F := F) laneV,
    k0_pay102 (F := F) (k0_pay101 (F := F) laneV) (FloatOps.ofBits FTy.f32 0#32),
    k0_pay103 (F := F) laneV,
    k0_pay104 (F := F) laneV,
    k0_pay106 (F := F) laneV k0_pay105,
    k0_pay107 (F := F) laneV,
    k0_pay111 (F := F) (k0_pay108 (F := F) laneV) (k0_pay109 (F := F) laneV) (k0_pay110 (F := F) laneV),
    k0_pay112 (F := F) laneV,
    k0_pay113 (F := F) laneV,
    k0_pay114 (F := F) laneV]

theorem weights_eq : wsV (F := F) vK = wV := by
  funext k
  fin_cases k
  · exact (rfl : k0_pay90 (F := F) = wV 0)
  · exact (rfl : k0_pay91 (F := F) = wV 1)
  · exact (rfl : k0_pay94 (F := F) (k0_pay92 (F := F)) (k0_pay93 (F := F)) = wV 2)
  · exact (rfl : k0_pay95 (F := F) laneV = wV 3)
  · exact (rfl : k0_pay98 (F := F) (k0_pay96 (F := F) laneV) (k0_pay97 (F := F) laneV) (FloatOps.ofBits FTy.f32 1315859240#32) = wV 4)
  · exact (rfl : k0_pay99 (F := F) laneV = wV 5)
  · exact (rfl : k0_pay100 (F := F) laneV = wV 6)
  · exact (rfl : k0_pay102 (F := F) (k0_pay101 (F := F) laneV) (FloatOps.ofBits FTy.f32 0#32) = wV 7)
  · exact (rfl : k0_pay103 (F := F) laneV = wV 8)
  · exact (rfl : k0_pay104 (F := F) laneV = wV 9)
  · exact (rfl : k0_pay106 (F := F) laneV k0_pay105 = wV 10)
  · exact (rfl : k0_pay107 (F := F) laneV = wV 11)
  · exact (rfl : k0_pay111 (F := F) (k0_pay108 (F := F) laneV) (k0_pay109 (F := F) laneV) (k0_pay110 (F := F) laneV) = wV 12)
  · exact (rfl : k0_pay112 (F := F) laneV = wV 13)
  · exact (rfl : k0_pay113 (F := F) laneV = wV 14)
  · exact (rfl : k0_pay1 (k0_pay114 (F := F) laneV) = wV 15)

/-- The table copied out is the tile's rows of the result. -/
theorem table_out (X : Buf (Elt F) (xLoc d)) (a : Buf (Elt F) ((aSlice L).view.loc (thr d L))) (g : Buf (Elt F) ((thr d L).loc cc0_scratch2))
    (hg : ∀ i : S56x32.Idx, g i = valT wV (tileX L X) i) :
    ∀ i ∈ (aSlice L).view.set, (aSlice L).view.writes (Elt F) a [⟨Rect.whole S56x32, ReadAs.same.apply ((tV).view.read (Elt F) g)⟩] i = valA X i := by
  intro i hi
  obtain ⟨x, -, rfl⟩ := Finset.mem_map.mp hi
  obtain ⟨r, c, rfl⟩ : ∃ (r : Fin 56) (c : Fin 32), x = ix2 r c := ⟨x 0, x 1, eq_ix2 x⟩
  refine (View.read_writes_cons_hit_of_coords (aSlice L).view a (Rect.whole S56x32) _ [] (ix2 r c) (ix2 r c) fun t => ?_).trans ?_
  · show ((ix2 r c : S56x32.Idx) t).val = 0 + 1 * ((ix2 r c : S56x32.Idx) t).val
    omega
  refine (hg (ix2 r c)).trans ?_
  have e0 : ((aSlice L).view.emb (ix2 r c) 0).val = row0 L + r.val := by
    show (k0_off12 L) 0 + 1 * r.val = row0 L + r.val
    rw [k0_off12_eq L, one_mul]
    rfl
  have e1 : ((aSlice L).view.emb (ix2 r c) 1).val = c.val := by
    show (k0_off12 L) 1 + 1 * c.val = c.val
    rw [k0_off12_eq L, one_mul]
    exact Nat.zero_add _
  show outS (sumS wV (fun t => X (ix2 ⟨row0 L + r.val, _⟩ t)) c) = outS (sumS wV (fun t => X (ix2 ⟨((aSlice L).view.emb (ix2 r c) 0).val, _⟩ t)) ((aSlice L).view.emb (ix2 r c) 1))
  rw [show ((aSlice L).view.emb (ix2 r c) 1 : Fin 32) = c from Fin.ext e1]
  simp only [e0]

/-- One tile's kernel, from its shares of the input and its rows of the result: the rows hold the hashes. -/
theorem body_run (X : Buf (Elt F) (xLoc d)) (q q' : PosShare TreeShare) (O : CellTallies nD τ sig (HIx 1)) (W : Waits sig (HIx 1))
   (f0 : Buf (Elt F) ((thr d L).loc cc0_scratch0)) (f1 : Buf (Elt F) ((thr d L).loc cc0_scratch1)) (g : Buf (Elt F) ((thr d L).loc cc0_scratch2))
   (a : Buf (Elt F) ((aSlice L).view.loc (thr d L))) :
   iprop(Transfers.MayWaits (thr d L) (default : HIx 1) O ∗ ((xV).view.loc (thr d L) ↦{q} X) ∗ ((xV).view.loc (thr d L) ↦{q'} X)
     ∗ ((aSlice L).view.loc (thr d L) ↦[(aSlice L).view.set]{fullShare} a)
     ∗ ((b0V).view.loc (thr d L) ↦{fullShare} f0) ∗ ((b1V).view.loc (thr d L) ↦{fullShare} f1) ∗ ((tV).view.loc (thr d L) ↦{fullShare} g)
     ∗ semVal (thr d L, .dma cc0_scratch3.sem) 0 ∗ semVal (thr d L, .dma cc0_scratch4.sem) 0 ∗ semVal (thr d L, .dma cc0_scoped0.sem) 0
     ∗ owes (thr d L) O W : sProp 𝕄)
    ⊢ wp frame (wpE (defs₀ (F := F)) 𝒱₀ (thr d L) none) Set.univ
      (cc0__sc_body L xV (Memref.isWhole_whole _) aV (Memref.isWhole_whole _) b0V (Memref.isWhole_whole _) b1V (Memref.isWhole_whole _)
        tV (Memref.isWhole_whole _) cc0_scratch3 cc0_scratch4 cc0_scoped0) fun _ =>
      iprop(((xV).view.loc (thr d L) ↦{q} X) ∗ ((xV).view.loc (thr d L) ↦{q'} X)
       ∗ ((aSlice L).view.loc (thr d L) ↦[(aSlice L).view.set]{fullShare} valA X)
       ∗ (∃ f0 : Buf (Elt F) ((thr d L).loc cc0_scratch0), (b0V).view.loc (thr d L) ↦{fullShare} f0)
       ∗ (∃ f1 : Buf (Elt F) ((thr d L).loc cc0_scratch1), (b1V).view.loc (thr d L) ↦{fullShare} f1)
       ∗ (∃ g : Buf (Elt F) ((thr d L).loc cc0_scratch2), (tV).view.loc (thr d L) ↦{fullShare} g)
       ∗ semVal (thr d L, .dma cc0_scratch3.sem) 0 ∗ semVal (thr d L, .dma cc0_scratch4.sem) 0 ∗ semVal (thr d L, .dma cc0_scoped0.sem) 0
       ∗ ∃ W', ⌜∀ p ∈ W', p ∈ W ∨ p.2 = none⌝ ∗ owes (thr d L) O W') := by
  iintro ⟨Hmw, Hx0, Hx1, Ha, Hb0, Hb1, Ht, Hs0, Hs1, Hs2, HO⟩
  sl_unfold [cc0__sc_body]
  sl_exec
  sl_for (inv1 d L vK X q q' O W) $$ [Hmw Ht Hs0 Hs1 Hx0 Hx1 HO]
  case region =>
    intro k b
    exact trip1 d L vK X q q' O W k b
  · unfold inv1
    rw [if_pos (by decide), if_pos (by decide)]
    isplitl [Hmw]; · iexact Hmw
    isplitl [Ht]
    · iexists _
      isplitr; swap; · iexact Ht
      ipureintro
      exact fun i hi => absurd hi (Nat.not_lt_zero _)
    isplitl [Hs0 Hx0]
    · unfold fly0
      iexists _, _
      isplitr
      pick_goal 2
      · isplitl [Hs0]; · iexact Hs0
        iexact Hx0
      ipureintro
      intro r m hm
      exact staged0 d L X (k0_off1 L 0#32) 0 (k0_off1_eq L 0) _ f0 r m hm
    isplitl [Hs1 Hx1]
    · unfold fly1
      iexists _, _
      isplitr
      pick_goal 2
      · isplitl [Hs1]; · iexact Hs1
        iexact Hx1
      ipureintro
      intro r m hm
      exact staged1 d L X (k0_off1 L 4#32) 4 (k0_off1_eq L 1) _ f1 r m hm
    iexists W
    isplitr; swap; · iexact HO
    ipureintro
    exact fun p hp => .inl hp
  unfold inv1
  rw [if_neg (by decide +kernel), if_neg (by decide +kernel)]
  unfold idle0 idle1
  iintro %_ ⟨Hmw, ⟨%g', %hg', Ht⟩, ⟨⟨%h0, Hb0⟩, Hs0, Hx0⟩, ⟨⟨%h1, Hb1⟩, Hs1, Hx1⟩, %W', %hW', HO⟩
  sl_exec
  sl_step
  isplitl [Hx0]; · iexact Hx0
  isplitl [Hx1]; · iexact Hx1
  isplitl [Ha]
  · ihave Ha' := (Entails.of_eq (pointsTo_congr (table_out d L X a g' fun i => (hg' i (by
      have := (i 0).isLt
      have := trips_t1
      unfold Scf.Loop.trips at this
      show (i 0).val < _
      rw [this]
      assumption)).trans (by rw [weights_eq])))) $$ Ha
    iexact Ha'
  isplitl [Hb0]; · iexists _; iexact Hb0
  isplitl [Hb1]; · iexists _; iexact Hb1
  isplitl [Ht]; · iexists _; iexact Ht
  isplitl [Hs0]; · iexact Hs0
  isplitl [Hs1]; · iexact Hs1
  isplitl [Hs2]; · iexact Hs2
  iexists _
  isplitr; swap; · iexact HO
  ipureintro
  intro p hp
  rcases Finset.mem_insert.mp hp with rfl | hp
  · exact .inr rfl
  · exact hW' p hp

end Cert.Proof.Hash

end
-- ==== Proof.Launch.lean ====
/-
  What the SparseCore call hands its two SparseCores and their tiles, and takes back: a share of the input and the
  tile's fifty-six rows of the result, the rows at their hashes on the way back.
-/
module

public import proofs.«01_k».proof.Proof.Tile

@[expose] public section

set_option maxRecDepth 16384

noncomputable section

namespace Cert.Proof.Hash

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ)

/-! ## Shares of the input -/

/-- Part `k` of `2 ^ n` equal parts of share `q`: the lowest binary digit of `k` says which half of the part before. -/
def part : ℕ → PosShare TreeShare → ℕ → PosShare TreeShare
  | 0, q, _ => q
  | n + 1, q, k => if k % 2 = 0 then (part n q (k / 2)).left else (part n q (k / 2)).right

omit [FloatOps F] in
/-- Holding a share of a buffer is holding its `2 ^ n` parts. -/
theorem pointsTo_parts {ℓ : Loc nD τ sig} (f : Buf (Elt F) ℓ) (q : PosShare TreeShare) : ∀ n : ℕ,
    (ℓ ↦{q} f : sProp 𝕄) = bigSep Finset.univ fun k : Fin (2 ^ n) => ℓ ↦{part n q k.val} f
  | 0 => (bigSep_univ_of_subsingleton (0 : Fin 1) (Φ := fun k : Fin (2 ^ 0) => (ℓ ↦{part 0 q k.val} f : sProp 𝕄))).symm
  | n + 1 => by
    rw [pointsTo_parts f q n, bigSep_univ_equiv (show Fin (2 ^ n) × Fin 2 ≃ Fin (2 ^ (n + 1)) from finProdFinEquiv)
      (fun k : Fin (2 ^ (n + 1)) => (ℓ ↦{part (n + 1) q k.val} f : sProp 𝕄)), bigSep_univ_prod]
    refine bigSep_congr fun a _ => ?_
    rw [bigSep_univ_two]
    have e0 : part (n + 1) q ((finProdFinEquiv (a, (0 : Fin 2)) : Fin (2 ^ n * 2)).val) = (part n q a.val).left := by
      have h : (finProdFinEquiv (a, (0 : Fin 2)) : Fin (2 ^ n * 2)).val = 2 * a.val := by simp
      rw [h, part, if_pos (by omega), show 2 * a.val / 2 = a.val by omega]
    have e1 : part (n + 1) q ((finProdFinEquiv (a, (1 : Fin 2)) : Fin (2 ^ n * 2)).val) = (part n q a.val).right := by
      have h : (finProdFinEquiv (a, (1 : Fin 2)) : Fin (2 ^ n * 2)).val = 2 * a.val + 1 := by simp; omega
      rw [h, part, if_neg (by omega), show (2 * a.val + 1) / 2 = a.val by omega]
    refine Eq.trans ?_ (congrArg₂ (fun s t => (iprop((ℓ ↦{s} f) ∗ ℓ ↦{t} f) : sProp 𝕄)) e0.symm e1.symm)
    exact BI.Entails.antisymm (pointsTo_share (PosShare.mem_left_op_right _)).1 (pointsTo_share (PosShare.mem_left_op_right _)).2

/-- A SparseCore's share of the input, and a tile's. -/
abbrev qC (c : ℕ) : PosShare TreeShare := part 1 fullShare c
abbrev qT (c i : ℕ) : PosShare TreeShare := part 4 (qC c) i

/-! ## Rows of the result -/

/-- The rows of the tile on subcore `i` of SparseCore `c`: the block of fifty-six numbered `2 i + c`. -/
def rowsA (c i : ℕ) : Finset S1792x32.Idx := Finset.univ.filter fun j => (j 0).val / 56 = 2 * i + c

/-! ## What the handshakes carry -/

abbrev xPts (d : Dev nD) (q : PosShare TreeShare) : sProp 𝕄 := xLoc d ↦{q} m (xLoc d)
abbrev aPts (d : Dev nD) (c i : ℕ) (f : Buf (Elt F) (aLoc d)) : sProp 𝕄 := aLoc d ↦[rowsA c i]{fullShare} f

/-- A SparseCore takes its share of the input and its tiles' rows, each tile its share and its rows; they come back with
    the rows at their hashes. -/
def P : (K (F := F)).Pay (nD := nD) (Val := Elt F) (Name := ℕ) (U := UU) where
  st := fun q d c => match q with
    | 0 => iprop(xPts m d (qC c.val) ∗ bigSep Finset.univ fun i : Fin 16 => aPts d c.val i.val (m (aLoc d)))
  dn := fun q d c => match q with
    | 0 => iprop(xPts m d (qC c.val) ∗ bigSep Finset.univ fun i : Fin 16 => aPts d c.val i.val (valA (m (xLoc d))))
  go := fun q d c i => match q with | 0 => iprop(xPts m d (qT c.val i.val) ∗ aPts d c.val i.val (m (aLoc d)))
  td := fun q d c i => match q with | 0 => iprop(xPts m d (qT c.val i.val) ∗ aPts d c.val i.val (valA (m (xLoc d))))
  x := fun _ _ => iprop(emp)

instance P_storable : (P (F := F) m).IsStorable where
  st q d c := match q with
    | 0 => (inferInstance : BI.Storable (upEmb : UEmb _ 𝕄)
      iprop(xPts m d (qC c.val) ∗ bigSep Finset.univ fun i : Fin 16 => aPts d c.val i.val (m (aLoc d))))
  dn q d c := match q with
    | 0 => (inferInstance : BI.Storable (upEmb : UEmb _ 𝕄)
      iprop(xPts m d (qC c.val) ∗ bigSep Finset.univ fun i : Fin 16 => aPts d c.val i.val (valA (m (xLoc d)))))
  go q d c i := match q with
    | 0 => (inferInstance : BI.Storable (upEmb : UEmb _ 𝕄) iprop(xPts m d (qT c.val i.val) ∗ aPts d c.val i.val (m (aLoc d))))
  td q d c i := match q with
    | 0 => (inferInstance : BI.Storable (upEmb : UEmb _ 𝕄) iprop(xPts m d (qT c.val i.val) ∗ aPts d c.val i.val (valA (m (xLoc d)))))

/-! ## The task -/

section Tile

variable (d : Dev nD) (L : grid0.Coords)

omit [FloatOps F] in
/-- The rows the tile's kernel copies its table to are the tile's rows. -/
theorem set_aSlice : (aSlice L).view.set = rowsA (L 0).val (L 1).val := by
  have hb0 := bound0 L
  have hb1 := bound1 L
  have he : ∀ y : S56x32.Idx, ((aSlice L).view.emb y 0).val = row0 L + (y 0).val ∧ ((aSlice L).view.emb y 1).val = (y 1).val := by
    intro y
    constructor
    · show (k0_off12 L) 0 + 1 * (y 0).val = row0 L + (y 0).val
      rw [k0_off12_eq L, one_mul]
      rfl
    · show (k0_off12 L) 1 + 1 * (y 1).val = (y 1).val
      rw [k0_off12_eq L, one_mul]
      exact Nat.zero_add _
  ext j
  unfold rowsA
  rw [Finset.mem_filter]
  constructor
  · intro h
    obtain ⟨y, -, rfl⟩ := Finset.mem_map.mp h
    refine ⟨Finset.mem_univ _, ?_⟩
    have hy : (y 0).val < 56 := (y 0).isLt
    rw [(he y).1]
    unfold row0
    omega
  · rintro ⟨-, h⟩
    refine Finset.mem_map.mpr ⟨ix2 ⟨(j 0).val - row0 L, ?_⟩ (j 1), Finset.mem_univ _, ?_⟩
    · unfold row0; omega
    · funext a
      match a with
      | ⟨0, _⟩ =>
        refine Fin.ext ((he _).1.trans (show row0 L + ((j 0).val - row0 L) = (j 0).val from ?_))
        unfold row0; omega
      | ⟨1, _⟩ => exact Fin.ext (he _).2

abbrev s3 (d : Dev nD) (L : grid0.Coords) : GSem nD τ sig := (thr d L, .dma cc0_scratch3.sem)
abbrev s4 (d : Dev nD) (L : grid0.Coords) : GSem nD τ sig := (thr d L, .dma cc0_scratch4.sem)
abbrev s5 (d : Dev nD) (L : grid0.Coords) : GSem nD τ sig := (thr d L, .dma cc0_scoped0.sem)

omit [FloatOps F] in
/-- The three semaphores are among the subcore's own. -/
theorem ownSems0_V :
    (ownSems0 (thr d L) : sProp 𝕄)
      = iprop(semVal (s3 d L) 0 ∗ semVal (s4 d L) 0 ∗ semVal (s5 d L) 0
          ∗ bigSep ((((ownCells (thr d L)).erase (s3 d L)).erase (s4 d L)).erase (s5 d L)) fun g => semVal g 0) := by
  unfold SparseCore.Cfg.ownSems0
  rw [SparseCore.bigSep_erase' ((mem_ownCells (g := s3 d L)).mpr ⟨rfl, by
      show (SemLoc.dma cc0_scratch3.sem : SemLoc sig).isScoped .scVector = true; decide⟩),
    SparseCore.bigSep_erase' (Finset.mem_erase.mpr ⟨by simp [s3, s4]; decide, (mem_ownCells (g := s4 d L)).mpr ⟨rfl, by
      show (SemLoc.dma cc0_scratch4.sem : SemLoc sig).isScoped .scVector = true; decide⟩⟩),
    SparseCore.bigSep_erase' (Finset.mem_erase.mpr ⟨by simp [s4, s5]; decide, Finset.mem_erase.mpr ⟨by simp [s3, s5]; decide,
      (mem_ownCells (g := s5 d L)).mpr ⟨rfl, by show (SemLoc.dma cc0_scoped0.sem : SemLoc sig).isScoped .scVector = true; decide⟩⟩⟩)]

abbrev rB0 (L : grid0.Coords) : DevRef τ sig := (Proc.scVector (cV L) (jV L)).devRef cc0_scratch0
abbrev rB1 (L : grid0.Coords) : DevRef τ sig := (Proc.scVector (cV L) (jV L)).devRef cc0_scratch1
abbrev rB2 (L : grid0.Coords) : DevRef τ sig := (Proc.scVector (cV L) (jV L)).devRef cc0_scratch2

omit [FloatOps F] in
/-- The two staging buffers and the table are among the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (rB0 L)).erase (rB1 L)).erase (rB2 L))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := rB0 L) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := rB1 L) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := rB2 L) rfl⟩⟩)]

/-- The task on subcore `L 1` of SparseCore `L 0`. -/
theorem tile_body (hF : (K (F := F)).Facts) (O : CellTallies nD τ sig (HIx 1)) (W : Waits sig (HIx 1)) (hO : ∀ g, O g none = 0) :
    iprop(levAts (K (F := F)).L (K (F := F)).lev ∗ emp
        ∗ (xPts m d (qT (L 0).val (L 1).val) ∗ aPts d (L 0).val (L 1).val (m (aLoc d)))
        ∗ scopedBufs (thr d L) ∗ scopedSems0 (thr d L) ∗ owes (thr d L) O W)
      ⊢ wp frame (wpE (defs₀ (F := F)) 𝒱₀ (thr d L) none) Set.univ
          (cc0__sc_body L xV (Memref.isWhole_whole _) aV (Memref.isWhole_whole _) b0V (Memref.isWhole_whole _) b1V (Memref.isWhole_whole _)
            tV (Memref.isWhole_whole _) cc0_scratch3 cc0_scratch4 cc0_scoped0)
          fun _ => iprop((xPts m d (qT (L 0).val (L 1).val) ∗ aPts d (L 0).val (L 1).val (valA (m (xLoc d))))
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hx, Ha⟩, ⟨⟨%f0, Hb0⟩, ⟨%f1, Hb1⟩, ⟨%g, Ht⟩, Hbufs⟩, ⟨Hs3, Hs4, Hs5, Hsems⟩, HO⟩
  ihave Hmw := (show levAts (K (F := F)).L (K (F := F)).lev ⊢ Transfers.MayWaits (thr d L) (default : HIx 1) O from
    (K (F := F)).mayWaits_none (thr := thr d L) hO) $$ Hlv
  ihave Hxs := (pointsTo_share (PosShare.mem_left_op_right (qT (L 0).val (L 1).val))).1 $$ Hx
  icases Hxs with ⟨Hx0, Hx1⟩
  ihave Ha' := (Entails.of_eq (show (aPts d (L 0).val (L 1).val (m (aLoc d)) : sProp 𝕄)
    = ((aSlice L).view.loc (thr d L) ↦[(aSlice L).view.set]{fullShare} m (aLoc d)) by rw [set_aSlice])) $$ Ha
  iapply (wp_wand_r frame (wpE (defs₀ (F := F)) 𝒱₀ (thr d L) none) Set.univ)
  isplitl [Hmw Hx0 Hx1 Ha' Hb0 Hb1 Ht Hs3 Hs4 Hs5 HO]
  · iapply (body_run d L (m (xLoc d)) (qT (L 0).val (L 1).val).left (qT (L 0).val (L 1).val).right O W f0 f1 g (m (aLoc d)))
    isplitl [Hmw]; · iexact Hmw
    isplitl [Hx0]; · iexact Hx0
    isplitl [Hx1]; · iexact Hx1
    isplitl [Ha']; · iexact Ha'
    isplitl [Hb0]; · iexact Hb0
    isplitl [Hb1]; · iexact Hb1
    isplitl [Ht]; · iexact Ht
    isplitl [Hs3]; · iexact Hs3
    isplitl [Hs4]; · iexact Hs4
    isplitl [Hs5]; · iexact Hs5
    iexact HO
  iintro %_ ⟨Hx0, Hx1, Ha, Hb0, Hb1, Ht, Hs3, Hs4, Hs5, HO⟩
  isplitl [Hx0 Hx1 Ha]
  · isplitl [Hx0 Hx1]
    · iapply (pointsTo_share (PosShare.mem_left_op_right (qT (L 0).val (L 1).val))).2
      isplitl [Hx0]; · iexact Hx0
      iexact Hx1
    ihave Ha' := (Entails.of_eq (show ((aSlice L).view.loc (thr d L) ↦[(aSlice L).view.set]{fullShare} valA (m (xLoc d)) : sProp 𝕄)
      = aPts d (L 0).val (L 1).val (valA (m (xLoc d))) by rw [set_aSlice])) $$ Ha
    iexact Ha'
  isplitl [Hb0 Hb1 Ht Hbufs]
  · isplitl [Hb0]; · iexact Hb0
    isplitl [Hb1]; · iexact Hb1
    isplitl [Ht]; · iexact Ht
    iexact Hbufs
  isplitl [Hs3 Hs4 Hs5 Hsems]
  · isplitl [Hs3]; · iexact Hs3
    isplitl [Hs4]; · iexact Hs4
    isplitl [Hs5]; · iexact Hs5
    iexact Hsems
  iexact HO

/-- Tile `s` of SparseCore `c`, as a grid index of the task. -/
def tileAt (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (tileAt c s)
          xV (Memref.isWhole_whole _) aV (Memref.isWhole_whole _) b0V (Memref.isWhole_whole _) b1V (Memref.isWhole_whole _)
          tV (Memref.isWhole_whole _) cc0_scratch3 cc0_scratch4 cc0_scoped0) ⟨⟩ c s := rfl

end Tile

omit [FloatOps F] in
/-- A recorded wait on no call is in particular one on no call or on call `q`. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %V, %hV, HO⟩
  isplitl [HA]; · iexact HA
  isplitl [HB]; · iexact HB
  isplitl [HC]; · iexact HC
  iexists V
  isplitr; swap; · iexact HO
  ipureintro
  intro p hp
  rcases hV p hp with h | h
  · exact .inl h
  · exact .inr (.inl h)

theorem tileObl (hF : (K (F := F)).Facts) : (K (F := F)).TileObl (D (F := F)) 𝒱P (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (tileAt ⟨_, hci.1⟩ ⟨_, hci.2⟩) hF O W hO).trans (wp_mono frame _ _ fun _ => waits_weaken)

/-! ## The rows over the tiles -/

/-- SparseCore `c`'s tiles own between them the blocks of fifty-six rows whose number has `c`'s parity. -/
def rowsC (c : ℕ) : Finset S1792x32.Idx := Finset.univ.filter fun j => (j 0).val / 56 % 2 = c

omit [FloatOps F] in
theorem rowsA_disjoint (c : ℕ) : ∀ i ∈ (Finset.univ : Finset (Fin 16)), ∀ j ∈ (Finset.univ : Finset (Fin 16)), i ≠ j →
    Disjoint (rowsA c i.val) (rowsA c j.val) := by
  intro i _ j _ h
  refine Finset.disjoint_left.mpr fun y hi hj => h (Fin.ext ?_)
  have h1 := (Finset.mem_filter.mp hi).2
  have h2 := (Finset.mem_filter.mp hj).2
  omega

omit [FloatOps F] in
theorem rowsA_cover (c : Fin 2) : (Finset.univ : Finset (Fin 16)).biUnion (fun i => rowsA c.val i.val) = rowsC c.val := by
  ext y
  have hy : (y 0).val < 1792 := (y 0).isLt
  have hc := c.isLt
  simp only [Finset.mem_biUnion, rowsA, rowsC, Finset.mem_filter, Finset.mem_univ, true_and]
  constructor
  · rintro ⟨i, h⟩; omega
  · intro h; exact ⟨⟨(y 0).val / 56 / 2, by omega⟩, by show (y 0).val / 56 = 2 * ((y 0).val / 56 / 2) + c.val; omega⟩

omit [FloatOps F] in
theorem rowsC_disjoint : ∀ i ∈ (Finset.univ : Finset (Fin 2)), ∀ j ∈ (Finset.univ : Finset (Fin 2)), i ≠ j →
    Disjoint (rowsC i.val) (rowsC j.val) := by
  intro i _ j _ h
  exact Finset.disjoint_left.mpr fun y hi hj => h (Fin.ext ((Finset.mem_filter.mp hi).2.symm.trans (Finset.mem_filter.mp hj).2))

omit [FloatOps F] in
theorem rowsC_cover : (Finset.univ : Finset (Fin 2)).biUnion (fun c => rowsC c.val) = Finset.univ := by
  ext y
  simp only [Finset.mem_biUnion, rowsC, Finset.mem_filter, Finset.mem_univ, true_and, iff_true]
  exact ⟨⟨(y 0).val / 56 % 2, Nat.mod_lt _ (by decide)⟩, rfl⟩

omit [FloatOps F] in
/-- The whole of the first result is the tiles' rows, SparseCore by SparseCore. -/
theorem aPts_tiles (d : Dev nD) (f : Buf (Elt F) (aLoc d)) :
    (aLoc d ↦{fullShare} f : sProp 𝕄)
      = bigSep Finset.univ fun c : Fin 2 => bigSep Finset.univ fun i : Fin 16 => aPts d c.val i.val f := by
  have h : (aLoc d ↦{fullShare} f : sProp 𝕄) = bigSep Finset.univ fun c : Fin 2 => aLoc d ↦[rowsC c.val]{fullShare} f := by
    rw [← pointsTo_biUnion Finset.univ (ℓ := aLoc d) (fun c : Fin 2 => rowsC c.val) rowsC_disjoint, rowsC_cover]
  rw [h]
  refine bigSep_congr fun c _ => ?_
  rw [← pointsTo_biUnion Finset.univ (ℓ := aLoc d) (fun i : Fin 16 => rowsA c.val i.val) (rowsA_disjoint c.val), rowsA_cover]

/-- A SparseCore's share of the input goes to its tiles in sixteen parts, and comes back. -/
theorem vecSplit : (K (F := F)).VecSplit' (P m) 0 := by
  intro d c
  have hgo : ∀ f : Buf (Elt F) (aLoc d),
      (bigSep Finset.univ fun i : Fin ((K (F := F)).nSub 0) => (iprop(xPts m d (qT c.val i.val) ∗ aPts d c.val i.val f) : sProp 𝕄))
        = iprop(xPts m d (qC c.val) ∗ bigSep Finset.univ fun i : Fin 16 => aPts d c.val i.val f) := by
    intro f
    have e : (xPts m d (qC c.val) : sProp 𝕄) = bigSep Finset.univ fun i : Fin 16 => xPts m d (qT c.val i.val) :=
      pointsTo_parts (m (xLoc d)) (qC c.val) 4
    rw [e]
    exact bigSep_sep' (s := (Finset.univ : Finset (Fin 16))) (Φ := fun i => xPts m d (qT c.val i.val)) (Ψ := fun i => aPts d c.val i.val f)
  show iprop(xPts m d (qC c.val) ∗ bigSep Finset.univ fun i : Fin 16 => aPts d c.val i.val (m (aLoc d))) ⊢ |={Set.univ}=> iprop(
      (bigSep Finset.univ fun i : Fin ((K (F := F)).nSub 0) => iprop(xPts m d (qT c.val i.val) ∗ aPts d c.val i.val (m (aLoc d))))
      ∗ ((bigSep Finset.univ fun i : Fin ((K (F := F)).nSub 0) => iprop(xPts m d (qT c.val i.val) ∗ aPts d c.val i.val (valA (m (xLoc d)))))
          -∗ iprop(xPts m d (qC c.val) ∗ bigSep Finset.univ fun i : Fin 16 => aPts d c.val i.val (valA (m (xLoc d))))))
  rw [hgo, hgo]
  iintro H; imodintro
  isplitl [H]; · iexact H
  iintro H; iexact H

end Cert.Proof.Hash

end
-- ==== Proof.TcBody.lean ====
/-
  The TensorCore's kernel on one block of 256 rows: column `s` of its result holds the hashes of the rows' chunks `s`.
-/
module

public import proofs.«01_k».proof.Proof.Setup

@[expose] public section

set_option maxRecDepth 16384

noncomputable section

namespace Cert.Proof.Hash

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- The weights of the 256 positions of a chunk, as the TensorCore computes them. -/
def wTC : FVec F S1x256 .f32 := k1_pay2

/-- The hashes of one chunk of 256 rows, a column. -/
def colTC (v : FVec F S256x256 .f32) : IVec S256x1 32 := k1_pay6 (F := F) wTC v

/-- Chunk `s` of 256 rows. -/
def chunkTC (x : S256x8192.Idx → F .f32) (s : Fin 32) : FVec F S256x256 .f32 :=
  fun i => x (ix2 (i 0) ⟨256 * s.val + (i 1).val, by have := (i 1).isLt; have : S256x256.size 1 = 256 := rfl; omega⟩)

/-- The hashes of 256 rows. -/
def blkTC (x : S256x8192.Idx → F .f32) : S256x32.Idx → BitVec 32 := fun y => colTC (chunkTC x (y 1)) (ix2 (y 0) 0)

variable (d : Dev nD)

/-- A 256-column slice of the block the kernel loads is a chunk. -/
theorem read_chunk (M0 : Memref sig .tc .vmem S256x8192 .f32) (f0 : Buf (Elt F) (M0.view.loc (T d : Thread nD τ))) (s : Fin 32) (o : ℕ) (ho : o = 256 * s.val)
    (h : ∀ a, (![0, o] : Fin 2 → ℕ) a + S256x256.size a ≤ S256x8192.size a) :
    View.readAt (Elt F) M0.view (Rect.unit (s := S256x8192) ![0, o] S256x256.size h).toLoadRect f0 = chunkTC (M0.view.read (Elt F) f0) s := by
  subst ho
  funext j
  refine congrArg (M0.view.read (Elt F) f0) (funext fun a => ?_)
  match a with
  | ⟨0, _⟩ => exact Fin.ext (show 0 + 1 * (j 0).val = (j 0).val by omega)
  | ⟨1, _⟩ => exact Fin.ext (show 256 * s.val + 1 * (j 1).val = 256 * s.val + (j 1).val by omega)

/-- A column the kernel stores is its column of the block's hashes. -/
theorem col_piece (M0 : Memref sig .tc .vmem S256x8192 .f32) (f0 : Buf (Elt F) (M0.view.loc (T d : Thread nD τ))) (s : Fin 32) (o : ℕ) (ho : o = 256 * s.val)
    (h : ∀ a, (![0, o] : Fin 2 → ℕ) a + S256x256.size a ≤ S256x8192.size a)
    (h' : ∀ a, (![0, s.val] : Fin 2 → ℕ) a + S256x1.size a ≤ S256x32.size a) (x : S256x1.Idx) :
    colTC (View.readAt (Elt F) M0.view (Rect.unit (s := S256x8192) ![0, o] S256x256.size h).toLoadRect f0) x
      = blkTC (M0.view.read (Elt F) f0) ((Rect.unit (s := S256x32) ![0, s.val] S256x1.size h').emb x) := by
  rw [read_chunk d M0 f0 s o ho h]
  have hx : (x 1).val = 0 := by have := (x 1).isLt; have : S256x1.size 1 = 1 := rfl; omega
  have e1 : ((Rect.unit (s := S256x32) ![0, s.val] S256x1.size h').emb x) 1 = s :=
    Fin.ext (show s.val + 1 * (x 1).val = s.val by omega)
  have e0 : ix2 (((Rect.unit (s := S256x32) ![0, s.val] S256x1.size h').emb x) 0) 0 = x := by
    funext a
    match a with
    | ⟨0, _⟩ => exact Fin.ext (show 0 + 1 * (x 0).val = (x 0).val by omega)
    | ⟨1, _⟩ => exact Fin.ext hx.symm
  unfold blkTC
  rw [e1]
  exact congrArg _ e0.symm

/-- The kernel's run on one block: its result's buffer ends at the block's hashes. -/
theorem body_tc (i : grid1.Coords) (M0 : Memref sig .tc .vmem S256x8192 .f32) (h0 : M0.IsWhole) (M1 : Memref sig .tc .vmem S256x32 .i32) (h1 : M1.IsWhole)
    (f0 : Buf (Elt F) (M0.view.loc (T d))) (f1 : Buf (Elt F) (M1.view.loc (T d))) (E : Set ℕ) (Q : PUnit → sProp 𝕄) :
    iprop((M0.view.loc (T d) ↦{fullShare} f0) ∗ (M1.view.loc (T d) ↦{fullShare} f1)
      ∗ (iprop((M0.view.loc (T d) ↦{fullShare} f0) ∗ (∃ W : Buf (Elt F) (M1.view.loc (T d)),
          ⌜∀ y, M1.view.read (Elt F) W y = blkTC (M0.view.read (Elt F) f0) y⌝ ∗ M1.view.loc (T d) ↦{fullShare} W)) -∗ Q ⟨⟩))
      ⊢ wp frame (wpE (defs₀ (F := F)) 𝒱₀ (T d) none) E (cc1__tc_body i M0 h0 M1 h1) Q := by
  iintro ⟨H0, H1, Hk⟩
  sl_exec_parts
  sl_step
  iapply Hk
  isplitl [H0]; · iexact H0
  iexists _
  isplitr; swap; · iexact H1
  ipureintro
  sl_unfold_run_names
  intro y
  refine View.read_writes_apply_of_pieces M1.view f1 (blkTC (M0.view.read (Elt F) f0)) _ ?_ y (View.cover_of_tiled (s := S256x32) _ S256x1.size rfl y)
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · exact col_piece d M0 f0 31 7936 rfl _ _
  · exact col_piece d M0 f0 30 7680 rfl _ _
  · exact col_piece d M0 f0 29 7424 rfl _ _
  · exact col_piece d M0 f0 28 7168 rfl _ _
  · exact col_piece d M0 f0 27 6912 rfl _ _
  · exact col_piece d M0 f0 26 6656 rfl _ _
  · exact col_piece d M0 f0 25 6400 rfl _ _
  · exact col_piece d M0 f0 24 6144 rfl _ _
  · exact col_piece d M0 f0 23 5888 rfl _ _
  · exact col_piece d M0 f0 22 5632 rfl _ _
  · exact col_piece d M0 f0 21 5376 rfl _ _
  · exact col_piece d M0 f0 20 5120 rfl _ _
  · exact col_piece d M0 f0 19 4864 rfl _ _
  · exact col_piece d M0 f0 18 4608 rfl _ _
  · exact col_piece d M0 f0 17 4352 rfl _ _
  · exact col_piece d M0 f0 16 4096 rfl _ _
  · exact col_piece d M0 f0 15 3840 rfl _ _
  · exact col_piece d M0 f0 14 3584 rfl _ _
  · exact col_piece d M0 f0 13 3328 rfl _ _
  · exact col_piece d M0 f0 12 3072 rfl _ _
  · exact col_piece d M0 f0 11 2816 rfl _ _
  · exact col_piece d M0 f0 10 2560 rfl _ _
  · exact col_piece d M0 f0 9 2304 rfl _ _
  · exact col_piece d M0 f0 8 2048 rfl _ _
  · exact col_piece d M0 f0 7 1792 rfl _ _
  · exact col_piece d M0 f0 6 1536 rfl _ _
  · exact col_piece d M0 f0 5 1280 rfl _ _
  · exact col_piece d M0 f0 4 1024 rfl _ _
  · exact col_piece d M0 f0 3 768 rfl _ _
  · exact col_piece d M0 f0 2 512 rfl _ _
  · exact col_piece d M0 f0 1 256 rfl _ _
  · exact col_piece d M0 f0 0 0 rfl _ _

end Cert.Proof.Hash

end
-- ==== Proof.Region.lean ====
/-
  The TensorCore's pallas_call as a region of @main: nine blocks of 256 rows, each staged, hashed and written back.
-/
module

public import proofs.«01_k».proof.Proof.TcBody
public import Idealize.ShloMosaic.Lib.Pipeline.RegionsLoop
public import Idealize.ShloMosaic.Lib.Pipeline.Value

@[expose] public section

set_option maxRecDepth 16384

noncomputable section

namespace Cert.Proof.Hash

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat BodyObligation cellOf)

variable {F : FTy → Type} [FloatOps F]

local notation "𝕄" => MT nD τ sig (HIx 1) (Elt F) ℕ UU ℕ

/-- Rows `1792 + 256 t` to `2047 + 256 t` of the input. -/
def rowsB (x : S4096x8192.Idx → F .f32) (t : Fin 9) : S256x8192.Idx → F .f32 := fun j =>
  x (ix2 ⟨1792 + 256 * t.val + (j 0).val, by have := (j 0).isLt; have : S256x8192.size 0 = 256 := rfl; omega⟩ (j 1))

/-- The TensorCore's result: the hashes of rows 1792 to 4095. -/
def valB (x : S4096x8192.Idx → F .f32) : S2304x32.Idx → BitVec 32 := fun i =>
  blkTC (rowsB x ⟨(i 0).val / 256, by have := (i 0).isLt; have : S2304x32.size 0 = 2304 := rfl; omega⟩) (ix2 ⟨(i 0).val % 256, by omega⟩ (i 1))

/-! ## The proof data -/

variable (W : (c : Dev nD) → (b : Ref sig .tc) → Buf (Elt F) ((c.tc : Thread nD τ).loc b))

/-- The input's block at point `t`. -/
abbrev stg (c : Dev nD) (t : Fin cfg1.N) : S256x8192.Idx → F .f32 := ((cfg1.win 0).blk t).view.read (Elt F) (W c main_arg0)

/-- The pairs a core may have recorded when the region starts: those at levels up to 8. -/
abbrev low (c : Dev nD) : Set (SemLoc sig × HIx 1) := {p | (K (F := F)).lev (T c, p.1) p.2 ≤ 8}

/-- The arrays as the region finds them; after the body at point `t` the input's buffer as fetched, the result's at the
    block's hashes. -/
def dat (c : Dev nD) : Dat τ (Elt F) (HIx 1) ℕ UU ℕ cfg1 c where
  A w := W c (Pipeline.arrRef spec1 w)
  after w t := match w with
    | ⟨0, _⟩ => stg W c t
    | ⟨1, _⟩ => blkTC (stg W c t)
  Φ _ := BI.emp
  q _ := fullShare
  owed _ := 0
  recorded _ := low (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat W c

theorem before_in (c : Dev nD) (t : Fin cfg1.N) (d : (cfg1.win 0).block.Idx → Elt F (cfg1.win 0).elt) : (dat W c).before 0 t d = stg W c t := by
  unfold Dat.before; rw [if_pos (fetch1_0 t)]; rfl

omit [FloatOps F] in
/-- Owning a whole buffer at contents `X` is holding all of it at contents that read `X`. -/
theorem owns_all (c : Dev nD) {sp : Space} {s : Shape} {e : EltTy} (M : Memref sig .tc sp s e) (h : M.IsWhole) (q : PosShare TreeShare) (X : s.Idx → Elt F e) :
    (owns (c.tc : Thread nD τ) M q X : sProp 𝕄) = iprop(∃ f, ⌜M.view.read (Elt F) f = X⌝ ∗ (M.view.loc (T c : Thread nD τ) ↦{q} f)) := by
  unfold owns; rw [h.set_eq_univ]

theorem body_obligation (c : Dev nD) : BodyObligation (dat W c) (defs₀ (F := F)) 𝒱₀ (default : HIx 1) Set.univ := fun t => by
  rw [bigSep_W1, bigSep_W1]
  rw [show (dat W c).Φ t.castSucc = BI.emp from rfl, show (dat W c).Φ t.succ = BI.emp from rfl,
    show (dat W c).owesAt (default : HIx 1) t.succ = (dat W c).owesAt (default : HIx 1) t.castSucc from rfl]
  have h0 : ((cfg1.win 0).stage (cfg1.slots t 0)).IsWhole := stage_whole1 0 _
  have h1 : ((cfg1.win 1).stage (cfg1.slots t 1)).IsWhole := stage_whole1 1 _
  simp only [before_in]
  rw [owns_all c ((cfg1.win 0).stage (cfg1.slots t 0)) h0 fullShare (stg W c t)]
  simp only [owns_all c ((cfg1.win 1).stage (cfg1.slots t 1)) h1 fullShare]
  iintro ⟨HΦ, Howes, ⟨%d0, %f0, %hf0, H0⟩, ⟨%d1, %f1, -, H1⟩⟩
  iapply (body_tc c (grid1.coords t) ((cfg1.win 0).stage (cfg1.slots t 0)) h0 ((cfg1.win 1).stage (cfg1.slots t 1)) h1 f0 f1 Set.univ _) $$ [-]
  isplitl [H0]; · iexact H0
  isplitl [H1]; · iexact H1
  iintro ⟨H0, %f, %hf, H1⟩
  isplitl [HΦ]; · iexact HΦ
  isplitl [Howes]; · iexact Howes
  isplitl [H0]
  · iapply (Entails.of_eq (owns_all c ((cfg1.win 0).stage (cfg1.slots t 0)) h0 fullShare (stg W c t)).symm)
    iexists f0
    isplitr; swap; · iexact H0
    ipureintro
    exact hf0
  iexists f
  isplitr; swap; · iexact H1
  ipureintro
  funext y
  refine (hf y).trans ?_
  exact congrFun (congrArg blkTC hf0) y

/-! ## What the region leaves in the result -/

omit [FloatOps F] in
theorem tr0 : ∀ t : Fin grid1.N, cc1_transform_0 (grid1.coords t) 0 = t.val + 7 ∧ cc1_transform_0 (grid1.coords t) 1 = 0 := by decide +kernel
omit [FloatOps F] in
theorem tr1 : ∀ t : Fin grid1.N, cc1_transform_1 (grid1.coords t) 0 = t.val ∧ cc1_transform_1 (grid1.coords t) 1 = 0 := by decide +kernel

/-- The input's block at point `t` is rows `1792 + 256 t` on. -/
theorem stg_eq (c : Dev nD) (t : Fin cfg1.N) : stg W c t = rowsB (W c main_arg0) ⟨t.val, N_1 ▸ t.isLt⟩ := by
  funext j
  refine congrArg (W c main_arg0) (funext fun a => ?_)
  match a with
  | ⟨0, _⟩ =>
    refine Fin.ext (show (cc1_transform_0 (grid1.coords t) 0) * 256 + 1 * (j 0).val = 1792 + 256 * t.val + (j 0).val from ?_)
    rw [(tr0 t).1]; omega
  | ⟨1, _⟩ =>
    refine Fin.ext (show (cc1_transform_0 (grid1.coords t) 1) * 8192 + 1 * (j 1).val = (j 1).val from ?_)
    rw [(tr0 t).2]; omega

/-- Where the result's block at point `t` lies. -/
theorem blk1_emb (t : Fin cfg1.N) (y : S256x32.Idx) :
    (((cfg1.win 1).blk t).view.emb y : S2304x32.Idx) = ix2 ⟨256 * t.val + (y 0).val, by
      have := (y 0).isLt; have : S256x32.size 0 = 256 := rfl; have := N_1; have := t.isLt
      have : t.val < 9 := N_1 ▸ t.isLt
      omega⟩ (y 1) := by
  funext a
  match a with
  | ⟨0, _⟩ =>
    refine Fin.ext (show (cc1_transform_1 (grid1.coords t) 0) * 256 + 1 * (y 0).val = 256 * t.val + (y 0).val from ?_)
    rw [(tr1 t).1]; omega
  | ⟨1, _⟩ =>
    refine Fin.ext (show (cc1_transform_1 (grid1.coords t) 1) * 32 + 1 * (y 1).val = (y 1).val from ?_)
    rw [(tr1 t).2]; omega

theorem valB_row (x : S4096x8192.Idx → F .f32) (t : Fin 9) (y : S256x32.Idx) (h : 256 * t.val + (y 0).val < 2304) :
    valB x (ix2 ⟨256 * t.val + (y 0).val, h⟩ (y 1)) = blkTC (rowsB x t) y := by
  have hy : (y 0).val < 256 := (y 0).isLt
  have e1 : (⟨(256 * t.val + (y 0).val) / 256, by omega⟩ : Fin 9) = t := Fin.ext (by show (256 * t.val + (y 0).val) / 256 = t.val; omega)
  have e2 : (ix2 ⟨(256 * t.val + (y 0).val) % 256, by omega⟩ (y 1) : S256x32.Idx) = y := by
    funext a
    match a with
    | ⟨0, _⟩ => exact Fin.ext (by show (256 * t.val + (y 0).val) % 256 = (y 0).val; omega)
    | ⟨1, _⟩ => rfl
  show blkTC (rowsB x ⟨(256 * t.val + (y 0).val) / 256, _⟩) (ix2 ⟨(256 * t.val + (y 0).val) % 256, _⟩ (y 1)) = _
  rw [e1, e2]

theorem arrAt_eq (c : Dev nD) : (dat W c).arrAt 1 cfg1.N = valB (W c main_arg0) := by
  refine Dat.arrAt_eq_of_cover (dat W c) 1 (valB (W c main_arg0)) (fun t _ => ?_) (fun i => ?_)
  · funext y
    refine Eq.trans (show (dat W c).flushed 1 t y = blkTC (stg W c t) y from rfl) ?_
    rw [stg_eq]
    refine Eq.trans ?_ (show valB (W c main_arg0) (((cfg1.win 1).blk t).view.emb y) = _ from rfl)
    rw [blk1_emb]
    exact (valB_row (W c main_arg0) ⟨t.val, N_1 ▸ t.isLt⟩ y _).symm
  · have hi : (i 0).val < 2304 := (i 0).isLt
    have ht : (i 0).val / 256 < cfg1.N := by rw [show cfg1.N = 9 from N_1]; omega
    refine ⟨⟨(i 0).val / 256, ht⟩, flush1_1 _, ?_⟩
    have e := blk1_emb ⟨(i 0).val / 256, ht⟩ (ix2 ⟨(i 0).val % 256, by omega⟩ (i 1))
    have e' : (((cfg1.win 1).blk ⟨(i 0).val / 256, ht⟩).view.emb (ix2 ⟨(i 0).val % 256, by omega⟩ (i 1) : S256x32.Idx)) = i := by
      refine e.trans (funext fun a => ?_)
      match a with
      | ⟨0, _⟩ => exact Fin.ext (by show 256 * ((i 0).val / 256) + (i 0).val % 256 = (i 0).val; omega)
      | ⟨1, _⟩ => rfl
    exact Finset.mem_map.mpr ⟨_, Finset.mem_univ _, e'⟩

/-! ## The region -/

variable (W' : (c : Dev nD) → (b : Ref sig .tc) → Buf (Elt F) ((c.tc : Thread nD τ).loc b))

set_option backward.isDefEq.respectTransparency.types false in
/-- The pallas_call over every unscoped buffer of the core: entered at `W`, left at `W'`, which differs from `W` in the
    result alone, and there is what the region wrote; the pairs the core has recorded stay at levels up to 8. -/
def reg (hout : ∀ c, W' c main_v1 = valB (W c main_arg0)) (hne : ∀ c (b : Ref sig .tc), b ≠ main_v1 → W' c b = W c b) :
    Pipeline.RegionSeg (pcfgs (F := F)) adm (pdats W) (default : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation W c).loose
  hwaits := Pipeline.hwaits_of_owed_zero _ _ _ _ (K (F := F)).L (K (F := F)).lev 0 fun _ _ => rfl
  pre c := iprop(unscopedBufs c (W c) ∗ ∃ Ws, ⌜∀ p ∈ Ws, p ∈ low (F := F) c⌝ ∗ owes (T c : Thread nD τ) (0 : CellTallies nD τ sig (HIx 1)) Ws)
  post c := iprop(unscopedBufs c (W' c) ∗ ∃ Ws, ⌜∀ p ∈ Ws, p ∈ low (F := F) c⌝ ∗ owes (T c : Thread nD τ) (0 : CellTallies nD τ sig (HIx 1)) Ws)
  X _ := BI.emp
  Y _ := BI.emp
  Z c := Pipeline.unscopedRest (Ix := HIx 1) (Name := ℕ) (U := UU) (Lvl := ℕ) spec1 c (W c)
  hentry c := by
    rw [Pipeline.ownSems0_none]
    have hsplit := Pipeline.arrays_of_unscopedBufs (p := 0) (pcfgs (F := F)) adm (pdats W) (launch1).win (launch1).arr_whole c
      ((pdats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hWs, HO⟩; iexists Ws; isplitr; · ipureintro; exact fun p hp => Or.inl (hWs p hp)
      iexact HO
    isplitr; · iempintro
    iexact Hrest
  hin c := by
    rw [show (pdats W 0 c).Φ 0 = BI.emp from rfl]
    iintro ⟨-, -, Hr⟩
    ihave H := (Entails.of_eq (scopedRest1_eq (Ix := HIx 1) (Val := Elt F) (Name := ℕ) (U := UU) (Lvl := ℕ) c)) $$ Hr
    iexact H
  hout c := by
    rw [Pipeline.ownSems0_none, show (pdats W 0 c).Φ (Fin.last _) = BI.emp from rfl]
    iintro Hr
    isplitr; · iempintro
    isplitr; · iempintro
    iapply (Entails.of_eq (scopedRest1_eq (Ix := HIx 1) (Val := Elt F) (Name := ℕ) (U := UU) (Lvl := ℕ) c).symm)
    iexact Hr
  hexit c := by
    have hjoin := Pipeline.unscopedBufs_of_arrays (p := 0) (pcfgs (F := F)) adm (Ix := HIx 1) (Name := ℕ) (U := UU) (Lvl := ℕ) (launch1).win (launch1).arr_whole c
      (pdats W) ((pdats W 0 c).share_full fun _ => rfl) (W c) (W' c) ((pdats W 0 c).arrAt · cfg1.N)
      (fun w => by
        fin_cases w
        · exact ((pdats W 0 c).arrAt_in 0 rfl _).trans (hne c main_arg0 (by decide)).symm
        · exact (arrAt_eq W c).trans (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws
    isplitr; swap; · iexact HO
    ipureintro
    intro p hp
    rcases hWs hp with h | ⟨w, s, rfl⟩
    · exact h
    · exact Nat.zero_le _

end Cert.Proof.Hash

end
-- ==== Proof.Same.lean ====
/-
  The kernel as printed and the kernel read over the extended reals are one text: over any one reading of the floats
  their bodies, and so their definitions, are equal.
-/
module

public import proofs.«01_k».proof.Proof.Gen.Kernel
public import proofs.«01_k».proof.Proof.Launch

@[expose] public section

set_option maxRecDepth 16384

noncomputable section

namespace Cert.Proof.Hash

open Cert.KernelIdeal Cert.KernelIdeal.Gen

open Idealize.ShloMosaic

variable {F : FTy → Type} [FloatOps F]

theorem printed_vector (c : Fin τ.nSC) (s : Fin τ.nSub) :
    Cert.Kernel.defs₀ (F := F) (.scVector c s) 0 ()
      = SparseCore.onTile hcore0 hsub0 (fun c s => cc0__sc_body (F := F) (tileAt c s)
          xV (Memref.isWhole_whole _) aV (Memref.isWhole_whole _) b0V (Memref.isWhole_whole _) b1V (Memref.isWhole_whole _)
          tV (Memref.isWhole_whole _) cc0_scratch3 cc0_scratch4 cc0_scoped0) ⟨⟩ c s := rfl

theorem same_bodies : Cert.Kernel.defs₀ (F := F) = Cert.KernelIdeal.defs₀ (F := F) := by
  funext p ℓ a
  match p, ℓ, a with
  | .tc, 0, _ => rfl
  | .tc, 1, (t, s) => rfl
  | .scScalar c, 0, _ => rfl
  | .scScalar c, 1, _ => rfl
  | .scVector c s, 1, _ => rfl
  | .scVector c s, 0, _ => exact (printed_vector c s).trans (defs₀_vector c s).symm

theorem same_defs : Cert.Kernel.defs (F := F) = Cert.KernelIdeal.defs (F := F) :=
  congrArg (fun d => (sc (F := F)).defs (Pipeline.defs pcfgs d)) same_bodies

theorem same_threads : Cert.Kernel.threads (F := F) = Cert.KernelIdeal.threads (F := F) := rfl

end Cert.Proof.Hash

end
-- ==== Proof.Main.lean ====
/-
  @main on the TensorCore and the whole program's run: the SparseCore call leaves the hashes of rows 0 to 1791, the
  pallas_call those of rows 1792 to 4095, and the concatenation puts the two together.
-/
module

public import proofs.«01_k».proof.Proof.Launch
public import proofs.«01_k».proof.Proof.Region
public import proofs.«01_k».proof.Proof.Same
public import Idealize.ShloMosaic.Lib.Pipeline.Frame

@[expose] public section

set_option maxRecDepth 16384

noncomputable section

namespace Cert.Proof.Hash

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- The whole result: the SparseCores' rows above the TensorCore's. -/
def outO (x : S4096x8192.Idx → F .f32) : S4096x32.Idx → BitVec 32 :=
  concatenate S4096x32 0 [⟨S1792x32, valA x⟩, ⟨S2304x32, valB x⟩] concatenates_S1792x32_S2304x32_S4096x32_d0

/-! ## The arrays between the steps of @main -/

abbrev Vals : Type := Valuation τ sig (Elt F)

/-- At the start; after the SparseCore call; after the pallas_call. -/
def V0 (d : Dev nD) : Vals (F := F) := fun b => m (d, b)
def V1 (d : Dev nD) : Vals (F := F) := Function.update (V0 m d) (Proc.devRef .tc main_v0) (valA (m (xLoc d)))
def V2 (d : Dev nD) : Vals (F := F) := Function.update (V1 m d) (Proc.devRef .tc main_v1) (valB (m (xLoc d)))

omit [FloatOps F] in
theorem devRef_ne {a b : Ref sig .tc} (h : a ≠ b) : (Proc.devRef .tc a : DevRef τ sig) ≠ Proc.devRef .tc b :=
  fun e => h (Proc.devRef_injective _ e)

theorem V1_of_ne (d : Dev nD) (b : Ref sig .tc) (h : b ≠ main_v0) : V1 m d (Proc.devRef .tc b) = m (d, Proc.devRef .tc b) :=
  Function.update_of_ne (devRef_ne h) _ _
theorem V1_v0 (d : Dev nD) : V1 m d (Proc.devRef .tc main_v0) = valA (m (xLoc d)) := Function.update_self ..
theorem V2_of_ne (d : Dev nD) (b : Ref sig .tc) (h : b ≠ main_v1) : V2 m d (Proc.devRef .tc b) = V1 m d (Proc.devRef .tc b) :=
  Function.update_of_ne (devRef_ne h) _ _
theorem V2_v1 (d : Dev nD) : V2 m d (Proc.devRef .tc main_v1) = valB (m (xLoc d)) := Function.update_self ..

/-- The concatenation, as @main's last operation. -/
abbrev catOp : HloOp τ sig (Elt F) := StableHlo.binary main_v0 main_v1 main_v2
  ((fun a b => concatenate S4096x32 0 [⟨S1792x32, a⟩, ⟨S2304x32, b⟩] concatenates_S1792x32_S2304x32_S4096x32_d0) :
    (⟨S1792x32, .i32⟩ : BufTy).Contents (Elt F) → (⟨S2304x32, .i32⟩ : BufTy).Contents (Elt F) → (⟨S4096x32, .i32⟩ : BufTy).Contents (Elt F))

omit [FloatOps F] in
theorem cat_bufs : (catOp (F := F)).bufs ⊆ StableHlo.tcRefs τ sig := by
  show ({Proc.devRef .tc main_v0, Proc.devRef .tc main_v1, Proc.devRef .tc main_v2} : Finset (DevRef τ sig)) ⊆ _
  decide

theorem cat_v2 (d : Dev nD) : (catOp (F := F)).result (V2 m d) (Proc.devRef .tc main_v2) = outO (m (xLoc d)) := by
  refine (StableHlo.binary_result ..).trans ?_
  rw [V2_v1, V2_of_ne m d main_v0 (by decide), V1_v0]
  rfl

theorem cat_arg0 (d : Dev nD) : (catOp (F := F)).result (V2 m d) (Proc.devRef .tc main_arg0) = m (xLoc d) := by
  refine ((catOp (F := F)).result_of_not_mem _ fun h => ?_).trans ((V2_of_ne m d main_arg0 (by decide)).trans (V1_of_ne m d main_arg0 (by decide)))
  exact devRef_ne (by decide) (Finset.mem_singleton.mp h)

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_v0)
      ∗ (bLoc d ↦{fullShare} W main_v1) ∗ oLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-! ## The SparseCore call's operands and results, over both SparseCores -/

theorem cores_eq (d : Dev nD) (f : Buf (Elt F) (aLoc d)) :
    (bigSep Finset.univ fun c : Fin ((K (F := F)).nCore 0) => (iprop(xPts m d (qC c.val) ∗ bigSep Finset.univ fun i : Fin 16 => aPts d c.val i.val f) : sProp 𝕄))
      = iprop((xLoc d ↦{fullShare} m (xLoc d)) ∗ aLoc d ↦{fullShare} f) := by
  have e : (xLoc d ↦{fullShare} m (xLoc d) : sProp 𝕄) = bigSep Finset.univ fun c : Fin 2 => xPts m d (qC c.val) :=
    pointsTo_parts (m (xLoc d)) fullShare 1
  rw [e, aPts_tiles]
  exact bigSep_sep' (s := (Finset.univ : Finset (Fin 2))) (Φ := fun c => xPts m d (qC c.val)) (Ψ := fun c => bigSep Finset.univ fun i : Fin 16 => aPts d c.val i.val f)

theorem st_eq (d : Dev nD) : (bigSep Finset.univ fun c : Fin ((K (F := F)).nCore 0) => (P m).st 0 d c)
    = (iprop((xLoc d ↦{fullShare} m (xLoc d)) ∗ aLoc d ↦{fullShare} m (aLoc d)) : sProp 𝕄) := cores_eq m d _
theorem dn_eq (d : Dev nD) : (bigSep Finset.univ fun c : Fin ((K (F := F)).nCore 0) => (P m).dn 0 d c)
    = (iprop((xLoc d ↦{fullShare} m (xLoc d)) ∗ aLoc d ↦{fullShare} valA (m (xLoc d))) : sProp 𝕄) := cores_eq m d _

/-! ## The launch element -/

theorem pinj : Function.Injective (Pipeline.cellOf (nD := nD) (τ := τ) (Pipeline.pin (pcfgs (F := F)) adm)) := cellOf_inj

abbrev uP : UP := initOf (Pipeline.cells (Pipeline.pin (pcfgs (F := F)) adm) pinj) (Pipeline.launchToks (Pipeline.pin (pcfgs (F := F)) adm) pinj)
def u₀ : UU := (initOf (K (F := F)).hsCells (K (F := F)).hsToks, (uP (F := F), 1))

/-- The pipeline's share of the launch element, core by core. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem only_pipeline (Φ : Fin 1 → Dev nD → sProp 𝕄) :
    (bigSep Finset.univ fun d : Dev nD => bigSep Finset.univ fun p : Fin 1 => Φ p d) = bigSep Finset.univ fun d : Dev nD => Φ 0 d :=
  bigSep_congr fun _ _ => bigSep_univ_of_subsingleton (0 : Fin 1)

theorem no_own : (bigSep Finset.univ fun thr : Thread nD τ => bigSep Finset.univ fun q : Fin 1 => (P (F := F) m).x q thr) = (iprop(emp) : sProp 𝕄) :=
  (bigSep_congr fun _ _ => bigSep_univ_of_subsingleton (0 : Fin 1)).trans (bigSep_emp_const _)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (uP (F := F), (1 : Counters))) $$ Hu
  icases H with ⟨HH, HR⟩
  ihave H := (own_pair_emb (embR : Emb (UP × Counters) 𝕄) (uP (F := F)) (1 : Counters)) $$ HR
  icases H with ⟨HP, -⟩
  ihave HP' := (show BI.own (((Emb.inl : Emb UP (UP × Counters)).trans (embR : Emb (UP × Counters) 𝕄)) (uP (F := F))) ⊢ (BI.own (EP (uP (F := F))) : sProp 𝕄) from .rfl) $$ HP
  ihave HG := (Pipeline.fund_ghost (Pipeline.pin (pcfgs (F := F)) adm) EP pinj) $$ HP'
  imod HG with ⟨Hg, Ht⟩
  imodintro
  isplitl [HH]; · iexact HH
  isplitl [Hg Ht]
  · unfold G
    rw [bigSep_sep']
    isplitl [Hg]
    · iapply (Entails.of_eq (only_pipeline fun p d => Pipeline.cellsGhost (Pipeline.pin (pcfgs (F := F)) adm) EP p d)); iexact Hg
    iapply (Entails.of_eq (only_pipeline fun p d => Pipeline.toksInit (Pipeline.pin (pcfgs (F := F)) adm) EP p d)); iexact Ht
  iapply (Entails.of_eq (no_own (F := F) m).symm)
  iempintro

/-! ## @main -/

/-- What @main leaves for the claim: the input as it was, the result at the hashes. -/
abbrev FIN (d : Dev nD) : sProp 𝕄 := iprop((xLoc d ↦{fullShare} m (xLoc d)) ∗ oLoc d ↦{fullShare} outO (m (xLoc d)))

/-- The pallas_call's region in this program. -/
abbrev theReg : Pipeline.RegionSeg (pcfgs (F := F)) adm (pdats fun d b => V1 m d (Proc.devRef .tc b)) (default : HIx 1) defs₀ 𝒱₀ (K (F := F)).L (K (F := F)).lev 0 :=
  reg (fun d b => V1 m d (Proc.devRef .tc b)) (fun d b => V2 m d (Proc.devRef .tc b))
    (fun d => (V2_v1 m d).trans (congrArg valB (V1_of_ne m d main_arg0 (by decide)).symm)) (fun d b h => V2_of_ne m d b h)

/-- The core's debts are none, and it has recorded waits at levels up to 8 only. -/
abbrev idle (d : Dev nD) : sProp 𝕄 := iprop(∃ Ws, ⌜∀ p ∈ Ws, p ∈ low (F := F) d⌝ ∗ owes (T d : Thread nD τ) (0 : CellTallies nD τ sig (HIx 1)) Ws)

/-- The pallas_call: from the arrays after the SparseCore call to the arrays with the TensorCore's rows written. -/
theorem wp_region [∀ e, Nonempty (Elt F e)] (d : Dev nD) (Q : PUnit → sProp 𝕄) :
    iprop((iprop(boundary (T d : Thread nD τ) ∗ unscopedBufs d (fun b => V2 m d (Proc.devRef .tc b)) ∗ idle d) -∗ Q ⟨⟩)
        ∗ boundary (T d : Thread nD τ) ∗ (unscopedBufs d (fun b => V1 m d (Proc.devRef .tc b)) ∗ idle d)
        ∗ levAts (K (F := F)).L (K (F := F)).lev ∗ G d)
      ⊢ wp frame (wpE ((K (F := F)).defs (D (F := F))) 𝒱P (T d) none) Set.univ
          (Prog.lift (.customCall (SparseCore.inner (Pipeline.entry 0)) ())) Q := by
  have h := Pipeline.RegionSeg.wp (pcfgs (F := F)) adm (pdats fun d b => V1 m d (Proc.devRef .tc b)) (default : HIx 1) pinj EP defs₀ 𝒱₀
    (K (F := F)).L (K (F := F)).lev (theReg m) d none (fun u hu => nomatch hu) (fun r => .ret r) Q
  have h' := h.trans ((K (F := F)).wp_liftProg (D (F := F)) 𝒱P (T d) Set.univ none _ _)
  iintro ⟨Hk, Hb, Hpre, Hl, HG⟩
  unfold G
  ihave Hpre' := (Entails.of_eq (show (iprop(unscopedBufs d (fun b => V1 m d (Proc.devRef .tc b)) ∗ idle d) : sProp 𝕄) = (theReg m).pre d from rfl)) $$ Hpre
  iapply h'
  isplitl [Hk]
  · simp only [wp_ret]
    iintro ⟨Hb, Hpost⟩
    imodintro
    iapply Hk
    isplitl [Hb]; · iexact Hb
    iapply (Entails.of_eq (show (theReg m).post d = (iprop(unscopedBufs d (fun b => V2 m d (Proc.devRef .tc b)) ∗ idle d) : sProp 𝕄) from rfl))
    iexact Hpost
  isplitl [Hb]; · iexact Hb
  isplitl [Hpre']; · iexact Hpre'
  isplitl [Hl]; · iexact Hl
  iexact HG

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱P (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ha, Hbb, Ho⟩, Hts, -⟩, HG⟩
  iapply ((K (F := F)).wp_run (D (F := F)) 𝒱P (EH := EH) (P := P m) κ d 0) $$ [Hst Hx Ha Hbb Ho Hb Hts HG]
  isplitr; · iexact Hctx
  isplitl [Hst]; · iexact Hst
  isplitl [Hx Ha]
  · rw [st_eq]
    isplitl [Hx]; · iexact Hx
    iexact Ha
  iintro ⟨Hst, Hdn⟩
  ihave Hdn' := (Entails.of_eq (dn_eq m d)) $$ Hdn
  icases Hdn' with ⟨Hx, Ha⟩
  ihave Hub := (Entails.of_eq (show (iprop((xLoc d ↦{fullShare} m (xLoc d)) ∗ (aLoc d ↦{fullShare} valA (m (xLoc d)))
      ∗ (bLoc d ↦{fullShare} m (bLoc d)) ∗ oLoc d ↦{fullShare} m (oLoc d)) : sProp 𝕄)
      = unscopedBufs d (fun b => V1 m d (Proc.devRef .tc b)) by
    rw [unscopedBufs_eq, V1_v0, V1_of_ne m d main_arg0 (by decide), V1_of_ne m d main_v1 (by decide), V1_of_ne m d main_v2 (by decide)])) $$ [Hx Ha Hbb Ho]
  · isplitl [Hx]; · iexact Hx
    isplitl [Ha]; · iexact Ha
    isplitl [Hbb]; · iexact Hbb
    iexact Ho
  unfold SparseCore.Cfg.tcSt
  icases Hst with ⟨⟨%Ws, %hWs, HO⟩, Hat, Hrd, Hrs, Htoks⟩
  ihave HO' := (Entails.of_eq (congrArg (fun O => (owes (T d : Thread nD τ) O Ws : sProp 𝕄)) ((K (F := F)).Otc_end d (n := (0 : Fin 1).val + 1) (le_refl 1)))) $$ HO
  ihave Hlv := (SparseCore.Cfg.ctx_levAts κ) $$ Hctx
  iapply (wp_region m d)
  isplitr [Hb Hub HO' Hlv HG]
  swap
  · isplitl [Hb]; · iexact Hb
    isplitl [Hub HO']
    · isplitl [Hub]; · iexact Hub
      iexists Ws
      isplitr; swap; · iexact HO'
      ipureintro
      exact hWs
    isplitl [Hlv]; · iexact Hlv
    iexact HG
  iintro ⟨Hb, Hub, %Ws', %hWs', HO⟩
  ihave Hh := (Entails.of_eq (Pipeline.unscopedBufs_held (Ix := HIx 1) (Name := ℕ) (U := UU) (Lvl := ℕ) d (V2 m d))) $$ Hub
  iapply (StableHlo.wp_hlo_within 𝒱P (T d) none Set.univ (op := catOp (F := F)) (S := Pipeline.ucRefs τ sig) (Pipeline.sub_ucRefs _ cat_bufs) (V := V2 m d)) $$ [Hb Hh]
  · isplitl [Hb]; · iexact Hb
    iexact Hh
  iintro ⟨Hb, Hh⟩
  ihave Hub := (Entails.of_eq (Pipeline.unscopedBufs_held (Ix := HIx 1) (Name := ℕ) (U := UU) (Lvl := ℕ) d ((catOp (F := F)).result (V2 m d))).symm) $$ Hh
  ihave Hub' := (Entails.of_eq (unscopedBufs_eq d fun b => (catOp (F := F)).result (V2 m d) (Proc.devRef .tc b))) $$ Hub
  rw [cat_v2, cat_arg0]
  icases Hub' with ⟨Hx, -, -, Ho⟩
  simp only [wp_ret]
  imodintro
  imodintro
  isplitl [HO Hat Hrd Hrs Htoks]
  · isplitl [HO]
    · iexists Ws'
      isplitr; · ipureintro; exact hWs'
      iapply (Entails.of_eq (congrArg (fun O => (owes (T d : Thread nD τ) O Ws' : sProp 𝕄)) ((K (F := F)).Otc_end d (n := 1) (le_refl 1)).symm)); iexact HO
    isplitl [Hat]; · iexact Hat
    isplitl [Hrd]; · iexact Hrd
    isplitl [Hrs]; · iexact Hrs
    iexact Htoks
  isplitl [Hx Ho]
  · isplitl [Hx]; · iexact Hx
    iexact Ho
  isplitl [Hb]; · iexact Hb
  iexact Hts

/-! ## The program's run -/

def fq (d : Dev nD) (s' : Phys nD τ sig (Elt F)) : Prop := s'.mem.mem (xLoc d) = m (xLoc d) ∧ s'.mem.mem (oLoc d) = outO (m (xLoc d))

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := outO (m (xLoc d)))) $$ [HSI Ho]
  · isplitl [HSI] <;> iassumption
  icases H with %ho
  ipureintro
  exact ⟨funext fun i => hx i (Finset.mem_univ i), funext fun i => ho i (Finset.mem_univ i)⟩

/-- The input is as it was, the result at the hashes, every semaphore at zero. -/
def QC : PUnit × MemSt nD τ sig (Elt F) → Prop := fun r =>
  (∀ c : Dev nD, r.2.mem (xLoc c) = m (xLoc c) ∧ r.2.mem (oLoc c) = outO (m (xLoc c))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱P) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

/-! ## The frames -/

theorem frame_ideal : Cert.quiescent_KernelIdeal := fun m ρ _ =>
  (θ_run Cert.KernelIdeal.defs _ _).mono (fun _ h => ⟨fun c => (h.1 c).1, h.2⟩) (run_main (F := Ideal) m ρ)

/-- The printed kernel is the same program, read over its machine formats. -/
theorem frame_kernel : Cert.quiescent_Kernel := fun m ρ _ => by
  have h : θ_run (Cert.KernelIdeal.defs (F := Bits)) (Cert.KernelIdeal.threads (F := Bits)) ⟨m, fun _ => 0, ρ⟩
      (fun r => (∀ c : Dev nD, r.2.mem (xLoc c) = m (xLoc c)) ∧ r.2.sem = fun _ => 0) :=
    (θ_run (Cert.KernelIdeal.defs (F := Bits)) _ _).mono (fun _ h => ⟨fun c => (h.1 c).1, h.2⟩) (run_main (F := Bits) m ρ)
  show θ_run (Cert.Kernel.defs (F := Bits)) (Cert.Kernel.threads (F := Bits)) _ _
  rw [same_defs, same_threads]
  exact h

end Cert.Proof.Hash

end
-- ==== Proof.Value.lean ====
/-
  The kernel's result at exact arithmetic: the tiles' form and the TensorCore's form of one hash are the same function of
  the row's 256 entries and the 256 weights.
-/
module

public import proofs.«01_k».proof.Proof.Main
public import Idealize.ShloMosaic.PureOps.Ideal.Laws
public import Idealize.ShloMosaic.Lib.Pipeline.Value
public import Idealize.ShloMosaic.Lib.Pointwise.Reduce

@[expose] public section

set_option maxRecDepth 16384

noncomputable section

namespace Cert.Proof.Hash

open Cert.KernelIdeal Cert.KernelIdeal.Gen

open Idealize.ShloMosaic hiding ix1 ix2 ix3
open Idealize.ShloMosaic.ValueIdx
open scoped BigOperators

/-! ## The remainder -/

/-- The remainder of `x` by `c`, with the sign of a positive `c`. -/
def md (c x : EReal) : EReal := if Ideal.remf x c < 0 then Ideal.remf x c + c else Ideal.remf x c

/-- The multiplier of a position, the modulus of the weights and the modulus of the hashes. -/
abbrev cMul : EReal := Ideal.ofBits .f32 0x4F1E377A#32
abbrev cWt : EReal := Ideal.ofBits .f32 0x4E6E6B28#32
abbrev cHash : EReal := Ideal.ofBits .f32 0x44800000#32

/-- A 32-bit pattern of a number with the sign clear is not negative. -/
theorem ofBits_nonneg (b : BitVec 32) (hs : (b.extractLsb' (8 + 23) 1 == 1#1) = false) (he : (b.extractLsb' 23 8).toNat ≠ 2 ^ 8 - 1) :
    ¬ Ideal.ofBits .f32 b < 0 := by
  rw [not_lt]
  show 0 ≤ Ideal.ieee 8 23 b
  unfold Ideal.ieee
  simp only [hs, if_neg he, Bool.false_eq_true, if_false]
  split_ifs <;> exact EReal.coe_nonneg.2 (by positivity)

theorem cWt_nonneg : ¬ cWt < 0 := ofBits_nonneg _ (by decide) (by decide)

theorem cHash_nonneg : ¬ cHash < 0 := ofBits_nonneg _ (by decide) (by decide)

/-- The tiles' form of the remainder: below zero, and not equal to zero. -/
theorem md_tile (c r : EReal) :
    Scalar.select (IntOp.andi (Ideal.cmp .olt r 0) (IntOp.xori (Ideal.cmp .oeq r 0) 1#1)) (r + c) r = if r < 0 then r + c else r := by
  by_cases h : r < 0
  · simp [Scalar.select, IntOp.andi, IntOp.xori, Ideal.cmp, h, h.ne]
  · simp [Scalar.select, IntOp.andi, IntOp.xori, Ideal.cmp, h]

/-- The TensorCore's form: the remainder's sign is not the divisor's, and it is not zero. -/
theorem md_tc (c r : EReal) (hc : ¬ c < 0) :
    Scalar.select (IntOp.andi (IntOp.xori (Ideal.cmp .olt r 0) (Ideal.cmp .olt c 0)) (Ideal.cmp .one r 0)) (r + c) r = if r < 0 then r + c else r := by
  by_cases h : r < 0
  · simp [Scalar.select, IntOp.andi, IntOp.xori, Ideal.cmp, h, h.ne, hc]
  · simp [Scalar.select, IntOp.andi, IntOp.xori, Ideal.cmp, h, hc]

/-- The reference's form: as the TensorCore's, the two signs compared as one-bit words. -/
theorem md_ref (c r : EReal) (hc : ¬ c < 0) :
    Scalar.select (IntOp.andi (Scalar.cmpi .ne (Ideal.cmp .olt r 0) (Ideal.cmp .olt c 0)) (Ideal.cmp .une r 0)) (r + c) r = if r < 0 then r + c else r := by
  by_cases h : r < 0
  · simp [Scalar.select, Scalar.cmpi, IntOp.cmpi, IntOp.andi, Ideal.cmp, h, h.ne, hc]
  · simp [Scalar.select, Scalar.cmpi, IntOp.cmpi, IntOp.andi, Ideal.cmp, h, hc]

/-! ## The common form -/

/-- The weight of position `p` of a chunk. -/
def wt (p : ℕ) : EReal := md cWt (((BitVec.ofNat 32 p).toInt : ℝ) * cMul)

/-- The hash of chunk `s` of a row. -/
def hashAt (g : Fin 8192 → EReal) (s : Fin 32) : BitVec 32 :=
  Ideal.fptosi 32 (md cHash (∑ p : Fin 256, g ⟨256 * s.val + p.val, by omega⟩ * wt p.val))

/-! ## The tiles -/

theorem modV_apply (c : EReal) (v : FVec Ideal S16 .f32) (l : S16.Idx) : modV (F := Ideal) c v l = md c (v l) := by
  have h := md_tile c (Ideal.remf (v l) c)
  rw [← Ideal.ofBits_zero_f32] at h
  exact h.trans (by rw [Ideal.ofBits_zero_f32]; rfl)

theorem wV_apply (k : Fin 16) (l : Fin 16) : wV (F := Ideal) k (ix1 l) = wt (16 * k.val + l.val) := by
  unfold wV
  rw [modV_apply]
  refine congrArg (fun b : BitVec 32 => md cWt (((b.toInt : ℝ) : EReal) * cMul)) ?_
  revert k l
  decide

theorem outS_apply (x : EReal) : outS (F := Ideal) x = Ideal.fptosi 32 (md cHash x) := by
  show Ideal.fptosi 32 (modV (F := Ideal) cHash (fun _ => x) (ix1 0)) = _
  rw [modV_apply]

/-- Sixteen vectors added in halves and their lanes from the left are the sum over vectors and lanes. -/
theorem lanes_tree (p : Fin 16 → FVec Ideal S16 .f32) :
    lanesS (F := Ideal) (treeV p) = ∑ k : Fin 16, ∑ l : Fin 16, p k (ix1 l) := by
  have h1 (v : FVec Ideal S16 .f32) : lanesS (F := Ideal) v = ∑ l : Fin 16, v (ix1 l) := by
    simp only [Fin.sum_univ_castSucc, Fin.sum_univ_zero, zero_add]; rfl
  have h2 (l : Fin 16) : treeV (F := Ideal) p (ix1 l) = ∑ k : Fin 16, p k (ix1 l) := by
    simp only [Fin.sum_univ_castSucc, Fin.sum_univ_zero, zero_add]
    simp only [treeV, addf, Ideal.addf_def, ← add_assoc]
    rfl
  rw [h1, Finset.sum_comm]
  exact Finset.sum_congr rfl fun l _ => h2 l

/-- A sum over 256 positions by sixteens. -/
theorem sum_sixteens (f : ℕ → EReal) : ∑ p : Fin 256, f p.val = ∑ k : Fin 16, ∑ l : Fin 16, f (16 * k.val + l.val) := by
  rw [← Fintype.sum_prod_type']
  refine (Fintype.sum_equiv (finProdFinEquiv (m := 16) (n := 16)) _ _ fun kl => ?_).symm
  show f _ = f (kl.2.val + 16 * kl.1.val)
  rw [add_comm]

theorem sumS_apply (g : Fin 8192 → EReal) (s : Fin 32) :
    sumS (F := Ideal) wV g s = ∑ p : Fin 256, g ⟨256 * s.val + p.val, by omega⟩ * wt p.val := by
  have e := sum_sixteens fun n => (if h : n < 256 then g ⟨256 * s.val + n, by omega⟩ else 0) * wt n
  refine (lanes_tree _).trans (Eq.trans ?_ (e.symm.trans ?_))
  · refine Finset.sum_congr rfl fun k _ => Finset.sum_congr rfl fun l _ => ?_
    rw [dif_pos (by omega)]
    show g (colOf s k l) * wV (F := Ideal) k (ix1 l) = _
    rw [wV_apply]
    refine congrArg (fun c => g c * _) (Fin.ext ?_)
    show 256 * s.val + 16 * k.val + l.val = 256 * s.val + (16 * k.val + l.val)
    omega
  · exact Finset.sum_congr rfl fun p _ => by rw [dif_pos p.isLt]

theorem valA_apply (x : S4096x8192.Idx → EReal) (i : Fin 1792) (s : Fin 32) :
    valA (F := Ideal) x (ix2 i s) = hashAt (fun c => x (ix2 ⟨i.val, by omega⟩ c)) s := by
  show outS (F := Ideal) (sumS (F := Ideal) wV _ s) = _
  rw [outS_apply, sumS_apply]
  rfl

/-! ## The TensorCore -/

theorem wTC_apply (p : Fin 256) : wTC (F := Ideal) (ix2 0 p) = wt p.val := by
  have h := md_tc cWt (Ideal.remf (((BitVec.ofNat 32 p.val).toInt : ℝ) * cMul) cWt) cWt_nonneg
  rw [← Ideal.ofBits_zero_f32] at h
  refine Eq.trans ?_ (h.trans (by rw [Ideal.ofBits_zero_f32]; rfl))
  have e : (0 * 256 + p.val) = p.val := by omega
  rw [← e]
  rfl

theorem colTC_apply (v : FVec Ideal S256x256 .f32) (r : Fin 256) :
    colTC (F := Ideal) v (ix2 r 0) = Ideal.fptosi 32 (md cHash (∑ p : Fin 256, v (ix2 r p) * wt p.val)) := by
  have hs : multiReduction .add [1] S256 (mulf v (broadcastTo S256x256 (wTC (F := Ideal)) broadcasts_S1x256_S256x256)) 0x00000000#32
      reduces_S256x256_S256 (.inl rfl) rfl (ix1 r) = ∑ p : Fin 256, v (ix2 r p) * wt p.val := by
    refine (Ideal.reduceAdd_r2_a1 reduces_S256x256_S256 _ (ix1 r)).trans (Finset.sum_congr rfl fun p _ => ?_)
    show v (ix2 r p) * broadcastTo S256x256 (wTC (F := Ideal)) broadcasts_S1x256_S256x256 (ix2 r p) = _
    rw [broadcastTo_apply _ _ (ix2 r p) (ix2 0 p) (fun a => by match a with | ⟨0, _⟩ => rfl | ⟨1, _⟩ => rfl), wTC_apply]
  have h := md_tc cHash (Ideal.remf (∑ p : Fin 256, v (ix2 r p) * wt p.val) cHash) cHash_nonneg
  rw [← hs] at h ⊢
  rw [← Ideal.ofBits_zero_f32] at h
  unfold colTC k1_pay6
  refine Eq.trans (shapeCast_apply _ shapeCasts_S256_S256x1 (ix2 r 0) (ix1 r) ?_) (congrArg (Ideal.fptosi 32) (h.trans (by rw [Ideal.ofBits_zero_f32]; rfl)))
  rw [Shape.rowMajor_val_one, Shape.rowMajor_val_two]
  show r.val = r.val * 1 + 0
  omega

theorem valB_apply (x : S4096x8192.Idx → EReal) (i : Fin 2304) (s : Fin 32) :
    valB (F := Ideal) x (ix2 i s) = hashAt (fun c => x (ix2 ⟨1792 + i.val, by omega⟩ c)) s := by
  show colTC (F := Ideal) (chunkTC (rowsB x ⟨i.val / 256, _⟩) s) (ix2 ⟨i.val % 256, _⟩ 0) = _
  rw [colTC_apply]
  refine congrArg (fun y => Ideal.fptosi 32 (md cHash y)) (Finset.sum_congr rfl fun p _ => ?_)
  refine congrArg (fun r => x (ix2 r ⟨256 * s.val + p.val, _⟩) * wt p.val) (Fin.ext ?_)
  show 1792 + 256 * (i.val / 256) + i.val % 256 = 1792 + i.val
  omega

/-- The kernel's result at exact arithmetic: every entry is the hash of its row's chunk. -/
theorem outO_apply (x : S4096x8192.Idx → EReal) (i : Fin 4096) (s : Fin 32) :
    outO (F := Ideal) x (ix2 i s) = hashAt (fun c => x (ix2 i c)) s := by
  by_cases h : i.val < 1792
  · refine (concatenate_pair_apply_left 0 _ _ concatenates_S1792x32_S2304x32_S4096x32_d0 (ix2 i s) rfl (ix2 ⟨i.val, h⟩ s) ?_).trans (valA_apply x ⟨i.val, h⟩ s)
    intro b
    match b with
    | ⟨0, _⟩ => rfl
    | ⟨1, _⟩ => rfl
  · refine (concatenate_pair_apply_right 0 _ _ concatenates_S1792x32_S2304x32_S4096x32_d0 (ix2 i s) rfl rfl (ix2 ⟨i.val - 1792, by omega⟩ s) ?_ ?_).trans ((valB_apply x ⟨i.val - 1792, by omega⟩ s).trans ?_)
    · intro b hb
      match b with
      | ⟨0, _⟩ => exact absurd rfl hb
      | ⟨1, _⟩ => rfl
    · show i.val - 1792 + 1792 = i.val
      omega
    · refine congrArg (fun r => hashAt (fun c => x (ix2 r c)) s) (Fin.ext ?_)
      show 1792 + (i.val - 1792) = i.val
      omega

end Cert.Proof.Hash

end
-- ==== Proof.Ref.lean ====
/-
  The reference's result at exact arithmetic is the kernel's: its form of one hash is the same function of the row's 256
  entries and the 256 weights.
-/
module

public import proofs.«01_k».proof.Proof.Value
public import proofs.«01_k».proof.Proof.Gen.ReferenceIdeal.Run
public import Idealize.ShloMosaic.PureOps.Ideal.Laws
public import Idealize.ShloMosaic.Lib.Pipeline.Value
public import Idealize.ShloMosaic.Lib.Pointwise.Reduce

@[expose] public section

set_option maxRecDepth 16384

noncomputable section

namespace Cert.Proof.Hash

open Cert.ReferenceIdeal Cert.ReferenceIdeal.Gen

open Idealize.ShloMosaic hiding ix1 ix2 ix3
open Idealize.ShloMosaic.ValueIdx
open Idealize.SL.Sem
open scoped BigOperators

/-- The reference's weights, as a vector of 256. -/
def wRef : FVec Ideal S256 .f32 :=
  have r : FVec Ideal S256 .f32 := Host.remf (mulf (sitofp .f32 (iotaInDim S256 32 0)) (fun _ => cMul)) (fun _ => cWt)
  select (andi (cmpi .ne (cmpf .olt r fun _ => Ideal.ofBits .f32 0x00000000#32) fun _ => Ideal.cmp .olt cWt (Ideal.ofBits .f32 0x00000000#32))
    (cmpf .une r fun _ => Ideal.ofBits .f32 0x00000000#32)) (addf r fun _ => cWt) r

theorem wRef_apply (p : Fin 256) : wRef (ix1 p) = wt p.val := by
  have h := md_ref cWt (Ideal.remf (((BitVec.ofNat 32 p.val).toInt : ℝ) * cMul) cWt) cWt_nonneg
  rw [← Ideal.ofBits_zero_f32] at h
  exact h.trans (by rw [Ideal.ofBits_zero_f32]; rfl)

/-- The reference's hash sums. -/
def sRef (x : S4096x8192.Idx → EReal) : FVec Ideal S4096x32 .f32 :=
  Host.reduceAdd (mulf (shapeCast S4096x32x256 (x : FVec Ideal S4096x8192 .f32) shapeCasts_S4096x8192_S4096x32x256)
    (broadcastInDim S4096x32x256 ![0, 1, 2] bcast_S1x1x256_S4096x32x256_0_1_2 (broadcastInDim S1x1x256 ![2] bcast_S256_S1x1x256_2 wRef)))
    (constant (F := Ideal) S_ .f32 0x00000000#32) reducesTo_S4096x32x256_S4096x32_d2 h_S_

theorem sRef_apply (x : S4096x8192.Idx → EReal) (i : Fin 4096) (s : Fin 32) :
    sRef x (ix2 i s) = ∑ p : Fin 256, x (ix2 i ⟨256 * s.val + p.val, by omega⟩) * wt p.val := by
  refine (Ideal.hostReduceAdd_r3_a2 reducesTo_S4096x32x256_S4096x32_d2 _ _ (ix2 i s)).trans ?_
  refine (congrArg (· + _) Ideal.ofBits_zero_f32).trans ((zero_add _).trans (Finset.sum_congr rfl fun p _ => ?_))
  show shapeCast S4096x32x256 x shapeCasts_S4096x8192_S4096x32x256 (ix3 i s p)
    * broadcastInDim S4096x32x256 ![0, 1, 2] bcast_S1x1x256_S4096x32x256_0_1_2 (broadcastInDim S1x1x256 ![2] bcast_S256_S1x1x256_2 wRef) (ix3 i s p) = _
  rw [← wRef_apply p, shapeCast_apply x _ (ix3 i s p) (ix2 i ⟨256 * s.val + p.val, by omega⟩) ?_]
  · refine congrArg (x _ * ·) (congrArg wRef (funext fun a => ?_))
    match a with
    | ⟨0, _⟩ => rfl
  · rw [Shape.rowMajor_val_two, Shape.rowMajor_val_three]
    show i.val * 8192 + (256 * s.val + p.val) = (i.val * 32 + s.val) * 256 + p.val
    omega

/-- The reference's result. -/
def oRef (x : S4096x8192.Idx → EReal) : IVec S4096x32 32 :=
  have r : FVec Ideal S4096x32 .f32 := Host.remf (sRef x) (fun _ => cHash)
  fptosi 32 (select (andi (cmpi .ne (cmpf .olt r fun _ => Ideal.ofBits .f32 0x00000000#32) fun _ => Ideal.cmp .olt cHash (Ideal.ofBits .f32 0x00000000#32))
    (cmpf .une r fun _ => Ideal.ofBits .f32 0x00000000#32)) (addf r fun _ => cHash) r : FVec Ideal S4096x32 .f32)

theorem oRef_apply (x : S4096x8192.Idx → EReal) (i : Fin 4096) (s : Fin 32) :
    oRef x (ix2 i s) = hashAt (fun c => x (ix2 i c)) s := by
  have h := md_ref cHash (Ideal.remf (sRef x (ix2 i s)) cHash) cHash_nonneg
  rw [← Ideal.ofBits_zero_f32] at h
  refine (congrArg (Ideal.fptosi 32) (h.trans (by rw [Ideal.ofBits_zero_f32]; rfl) : _ = md cHash (sRef x (ix2 i s)))).trans ?_
  rw [sRef_apply]
  rfl

/-- The kernel's result and the reference's are one array. -/
theorem outO_eq_oRef (x : S4096x8192.Idx → EReal) : outO (F := Ideal) x = oRef x := by
  funext j
  rw [ValueIdx.eq_ix2 j]
  exact (outO_apply x _ _).trans (oRef_apply x _ _).symm

/-- What the reference's run leaves is that array of its argument. -/
theorem res_eq (m : (ℓ : Loc nD τ sig) → Buf (Elt Ideal) ℓ) (c : Dev nD) :
    Cert.ReferenceIdeal.Value.res_out0 (F := Ideal) m c
      = oRef (m ((c.tc : Thread nD τ).loc main_arg0)) := by
  unfold Cert.ReferenceIdeal.Value.res_out0 Cert.ReferenceIdeal.Value.res_main_v10
  rfl

/-! ## The claims about the reference -/

/-- The reference leaves its argument, and it has no semaphore. -/
theorem frame_ref : Cert.quiescent_ReferenceIdeal := fun m ρ _ =>
  (θ_run defs _ _).mono (fun r h => ⟨fun c => (h c).2, sem_eq_zero_of_no_sems (by decide) r.2⟩) (Cert.ReferenceIdeal.Value.run (F := Ideal) m ρ)

/-- The kernel and the reference leave the same hashes of the same input. -/
theorem same_hashes : Cert.algebraic_KernelIdeal_ReferenceIdeal := fun m ρ m' ρ' _ hm =>
  ⟨fun c => outO (F := Ideal) (m (xLoc c)),
    (θ_run Cert.KernelIdeal.defs _ _).mono (fun _ h c => ⟨(h.1 c).2, (h.1 c).1⟩) (run_main (F := Ideal) m ρ),
    (θ_run defs _ _).mono (fun _ h c => ⟨(h c).1.trans ((res_eq m' c).trans ((congrArg oRef (hm c)).trans (outO_eq_oRef (m (xLoc c))).symm)), (h c).2⟩)
      (Cert.ReferenceIdeal.Value.run (F := Ideal) m' ρ')⟩

end Cert.Proof.Hash

end
-- ==== Proof.lean ====
/-
  The claims of the two-part hash kernel, from its run (Proof/Main.lean) and the reference's (Proof/Ref.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Main
public import proofs.«01_k».proof.Proof.Ref

@[expose] public section

noncomputable section

namespace Cert.Proof

open Idealize.ShloMosaic Idealize.SL.Sem Cert.Kernel

/-- The three programs keep their argument and leave every counter at zero; the kernel read at exact arithmetic is its own
    text; its hashes are the reference's. -/
theorem claim : Cert.Claim := ⟨Cert.Kernel.Gen.facts, Cert.KernelIdeal.Gen.facts, Cert.ReferenceIdeal.Gen.facts,
  Hash.frame_kernel, Hash.frame_ideal, Hash.frame_ref, trivial, Hash.same_hashes⟩

end Cert.Proof

end
